-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite_labels_in_range [hPre_logits_finite_labels_in_range : Cert.Pre_logits_finite_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite_labels_in_range [hPre_logits_finite_labels_in_range : Cert.Pre_logits_finite_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_logits_finite_labels_in_range [hKernelIdeal : Cert.KernelIdeal.Facts] [hPre_logits_finite_labels_in_range : Cert.Pre_logits_finite_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_logits_finite_labels_in_range [hReferenceIdeal : Cert.ReferenceIdeal.Facts] [hPre_logits_finite_labels_in_range : Cert.Pre_logits_finite_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_logits_finite_labels_in_range [hKernelIdeal : Cert.KernelIdeal.Facts] [hReferenceIdeal : Cert.ReferenceIdeal.Facts] [hPre_logits_finite_labels_in_range : Cert.Pre_logits_finite_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_logits_finite_labels_in_range : Cert.Pre_logits_finite_labels_in_range.Facts),
    quiescent_Kernel (hKernel := hKernel)
    ∧ quiescent_KernelIdeal (hKernelIdeal := hKernelIdeal)
    ∧ quiescent_KernelIdeal_pre_logits_finite_labels_in_range (hKernelIdeal := hKernelIdeal) (hPre_logits_finite_labels_in_range := hPre_logits_finite_labels_in_range)
    ∧ quiescent_ReferenceIdeal (hReferenceIdeal := hReferenceIdeal)
    ∧ quiescent_ReferenceIdeal_pre_logits_finite_labels_in_range (hReferenceIdeal := hReferenceIdeal) (hPre_logits_finite_labels_in_range := hPre_logits_finite_labels_in_range)
    ∧ preserves_Kernel_KernelIdeal
    ∧ algebraic_KernelIdeal_ReferenceIdeal_pre_logits_finite_labels_in_range (hKernelIdeal := hKernelIdeal) (hReferenceIdeal := hReferenceIdeal) (hPre_logits_finite_labels_in_range := hPre_logits_finite_labels_in_range)
-- ==== Pre_logits_finite_labels_in_range.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩

class Facts : Prop where
  bcast_S_S16384x1000 : S_.BroadcastsInDim S16384x1000 (![] : Fin 0 → Fin S16384x1000.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)

variable [Facts]

def fn {F : FTy → Type} [FloatOps F] (main_arg0 : FVec F S16384x1000 .f32) (main_arg1 : IVec S16384 32) : IVec S16384x1000 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 32 := constantI S_ 32 0#32
  let main_v3 : IVec S16384 32 := broadcastInDim S16384 ![] bcast_S_S16384 main_c
  let main_v4 : IVec S16384 1 := cmpi .sge main_arg1 main_v3
  let main_c_0 : IVec S_ 32 := constantI S_ 32 1000#32
  let main_v5 : IVec S16384 32 := broadcastInDim S16384 ![] bcast_S_S16384 main_c_0
  let main_v6 : IVec S16384 1 := cmpi .slt main_arg1 main_v5
  let main_v7 : IVec S16384 1 := andi main_v4 main_v6
  let main_v8 : IVec S16384x1 1 := broadcastInDim S16384x1 ![0] bcast_S16384_S16384x1_0 main_v7
  let main_v9 : IVec S16384x1000 1 := broadcastInDim S16384x1000 ![0, 1] bcast_S16384x1_S16384x1000_0_1 main_v8
  let main_v10 : IVec S16384x1000 1 := andi main_v2 main_v9
  main_v10
-- ==== Kernel.lean ====
abbrev S16384x1000 : Shape := ⟨2, ![16384, 1000]⟩
abbrev S16384 : Shape := ⟨1, ![16384]⟩
abbrev S1000x16384 : Shape := ⟨2, ![1000, 16384]⟩
abbrev S32x1x512 : Shape := ⟨3, ![32, 1, 512]⟩
abbrev S1x1 : Shape := ⟨2, ![1, 1]⟩
abbrev S1000x512 : Shape := ⟨2, ![1000, 512]⟩
abbrev S1x1x512 : Shape := ⟨3, ![1, 1, 512]⟩
abbrev S32x512 : Shape := ⟨2, ![32, 512]⟩
abbrev S1x1000 : Shape := ⟨2, ![1, 1000]⟩
abbrev S512 : Shape := ⟨1, ![512]⟩
abbrev S1x512 : Shape := ⟨2, ![1, 512]⟩
abbrev S1x32x512 : Shape := ⟨3, ![1, 32, 512]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 33
  | .smem => 1
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S32x1x512, .i32⟩
  | .hbm, ⟨4, _⟩ => ⟨S1x1, .f32⟩
  | .hbm, ⟨5, _⟩ => ⟨S_, .f32⟩
  | .local _ .vmem, ⟨0, _⟩ => ⟨S1000x512, .f32⟩
  | .local _ .vmem, ⟨1, _⟩ => ⟨S1000x512, .f32⟩
  | .local _ .vmem, ⟨2, _⟩ => ⟨S1000x512, .f32⟩
  | .local _ .vmem, ⟨3, _⟩ => ⟨S1000x512, .f32⟩
  | .local _ .vmem, ⟨4, _⟩ => ⟨S1000x512, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1000x512, .f32⟩
  | .local _ .vmem, ⟨14, _⟩ => ⟨S1000x512, .f32⟩
  | .local _ .vmem, ⟨15, _⟩ => ⟨S1000x512, .f32⟩
  | .local _ .vmem, ⟨16, _⟩ => ⟨S1x1x512, .i32⟩
  | .local _ .vmem, ⟨17, _⟩ => ⟨S1x1x512, .i32⟩
  | .local _ .vmem, ⟨18, _⟩ => ⟨S1x1x512, .i32⟩
  | .local _ .vmem, ⟨19, _⟩ => ⟨S1x1x512, .i32⟩
  | .local _ .vmem, ⟨20, _⟩ => ⟨S1x1x512, .i32⟩
  | .local _ .vmem, ⟨21, _⟩ => ⟨S1x1x512, .i32⟩
  | .local _ .vmem, ⟨22, _⟩ => ⟨S1x1x512, .i32⟩
  | .local _ .vmem, ⟨23, _⟩ => ⟨S1x1x512, .i32⟩
  | .local _ .vmem, ⟨24, _⟩ => ⟨S1x1x512, .i32⟩
  | .local _ .vmem, ⟨25, _⟩ => ⟨S1x1x512, .i32⟩
  | .local _ .vmem, ⟨26, _⟩ => ⟨S1x1x512, .i32⟩
  | .local _ .vmem, ⟨27, _⟩ => ⟨S1x1x512, .i32⟩
  | .local _ .vmem, ⟨28, _⟩ => ⟨S1x1x512, .i32⟩
  | .local _ .vmem, ⟨29, _⟩ => ⟨S1x1x512, .i32⟩
  | .local _ .vmem, ⟨30, _⟩ => ⟨S1x1x512, .i32⟩
  | .local _ .vmem, ⟨31, _⟩ => ⟨S1x1x512, .i32⟩
  | .local _ .vmem, ⟨32, _⟩ => ⟨S32x512, .f32⟩
  | .local _ .smem, ⟨0, _⟩ => ⟨S1x1, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32

abbrev nD : Nat := 1
abbrev τ : Topo := Topo.v7x

variable {F : FTy → Type} [FloatOps F]

abbrev grid0 : Pipeline.Grid := ⟨1, ![4], ![false]⟩

def k0_off1 (i : grid0.Coords) (c0_i32 : BitVec 32) : Fin 2 → Nat :=
  let arg0 : BitVec 32 := BitVec.ofNat 32 (i 0).val
  let v20 : BitVec 32 := Scalar.addi c0_i32 arg0
  let v21 : Index := Scalar.indexCast v20
  let c0_8 : Index := 0#32
  ![v21.toNat, 0]
def k0_cond1 (i : grid0.Coords) : BitVec 1 :=
  let arg0 : BitVec 32 := BitVec.ofNat 32 (i 0).val
  let c3_i32 : BitVec 32 := 3#32
  let v186 : BitVec 1 := Scalar.cmpi .eq arg0 c3_i32
  let v187 : BitVec 32 := Scalar.extui v186
  let c0_i32_79 : BitVec 32 := 0#32
  let v188 : BitVec 1 := Scalar.cmpi .ne v187 c0_i32_79
  v188

@[reducible] def k0_t1_loop : Scf.Loop 32 :=
  let c0_i32_83 : BitVec 32 := 0#32
  let c16384_i32 : BitVec 32 := 16384#32
  let v196 : BitVec 32 := Scalar.addi c0_i32_83 c16384_i32
  let c1_i32 : BitVec 32 := 1#32
  ⟨c0_i32_83, v196, c1_i32⟩
@[reducible] def k0_t2_loop : Scf.Loop 32 :=
  let c0_i32_86 : BitVec 32 := 0#32
  let c31_i32 : BitVec 32 := 31#32
  let v198 : BitVec 32 := Scalar.addi c0_i32_86 c31_i32
  let c1_i32_87 : BitVec 32 := 1#32
  ⟨c0_i32_86, v198, c1_i32_87⟩
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_9 (i : grid0.Coords) : Fin 3 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩
abbrev S11468 : Shape := ⟨1, ![11468]⟩

abbrev nBuf : Space → Nat
  | .hbm => 48
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S16384x1000, .f32⟩
  | .hbm, ⟨16, _⟩ => ⟨S16384x1000, .f32⟩
  | .hbm, ⟨17, _⟩ => ⟨S16384x1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S_, .i32⟩
  | .hbm, ⟨22, _⟩ => ⟨S16384x1, .i32⟩
  | .hbm, ⟨23, _⟩ => ⟨S16384x1, .i32⟩
  | .hbm, ⟨24, _⟩ => ⟨S16384x1, .i32⟩
  | .hbm, ⟨25, _⟩ => ⟨S16384x1x1, .i32⟩
  | .hbm, ⟨26, _⟩ => ⟨S1, .i32⟩
  | .hbm, ⟨27, _⟩ => ⟨S_, .i32⟩
  | .hbm, ⟨28, _⟩ => ⟨S16384x1x1, .i32⟩
  | .hbm, ⟨29, _⟩ => ⟨S16384x1x1, .i1⟩
  | .hbm, ⟨30, _⟩ => ⟨S1x1x1, .i32⟩
  | .hbm, ⟨31, _⟩ => ⟨S16384x1x1, .i32⟩
  | .hbm, ⟨32, _⟩ => ⟨S16384x1x1, .i1⟩
  | .hbm, ⟨33, _⟩ => ⟨S16384x1x1, .i1⟩
  | .hbm, ⟨34, _⟩ => ⟨S_, .i1⟩
  | .hbm, ⟨35, _⟩ => ⟨S16384x1, .i1⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384, .f32⟩
  | .hbm, ⟨41, _⟩ => ⟨S16384, .f32⟩
  | .hbm, ⟨42, _⟩ => ⟨S11468, .f32⟩
  | .hbm, ⟨43, _⟩ => ⟨S11468, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_values : Ref sig .tc := ⟨.hbm, 42, rfl⟩
abbrev main_indices : Ref sig .tc := ⟨.hbm, 43, rfl⟩
abbrev main_cst : Ref sig .tc := ⟨.hbm, 44, rfl⟩
abbrev main_v5 : Ref sig .tc := ⟨.hbm, 45, rfl⟩
abbrev main_cst_0 : Ref sig .tc := ⟨.hbm, 46, rfl⟩
abbrev main_v6 : Ref sig .tc := ⟨.hbm, 47, rfl⟩

abbrev nD : Nat := 1
abbrev τ : Topo := Topo.v7x

variable {F : FTy → Type} [FloatOps F]
-- ==== Proof.Words.Body.lean ====
/- One grid point of the kernel over the words, and its frame: whatever the scratch and the result cell hold, a grid
   point runs to its end and leaves the blocks it read as they were. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Ohem.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A buffer held at contents `f` is owned at what its view reads of them. -/
theorem owns_of (c : Thread nD τ) {sp : Space} {s : Shape} {e : EltTy} {m : Memref sig c.2.kind sp s e} {f : m.view.ty.Contents (Elt F)}
    {x : s.Idx → Elt F e} (h : m.view.read (Elt F) f = x) :
    (iprop(m.view.loc c ↦[m.view.set]{fullShare} f) : sProp 𝕄) ⊢
      iprop(∃ f, ⌜m.view.read (Elt F) f = x⌝ ∗ (m.view.loc c ↦[m.view.set]{fullShare} f)) := by
  iintro H
  iexists f
  isplitr
  · ipureintro; exact h
  iexact H

/-- The sixteen input blocks of a grid point: the logits `x s` and the labels `y s` of each stream `s`. -/
abbrev inputs (c : Dev nD) (arg1 : Memref sig .tc .vmem S1000x512 .f32) (arg2 : Memref sig .tc .vmem S1000x512 .f32) (arg3 : Memref sig .tc .vmem S1000x512 .f32) (arg4 : Memref sig .tc .vmem S1000x512 .f32) (arg5 : Memref sig .tc .vmem S1000x512 .f32) (arg6 : Memref sig .tc .vmem S1000x512 .f32) (arg7 : Memref sig .tc .vmem S1000x512 .f32) (arg8 : Memref sig .tc .vmem S1000x512 .f32) (arg9 : Memref sig .tc .vmem S1x1x512 .i32) (arg10 : Memref sig .tc .vmem S1x1x512 .i32) (arg11 : Memref sig .tc .vmem S1x1x512 .i32) (arg12 : Memref sig .tc .vmem S1x1x512 .i32) (arg13 : Memref sig .tc .vmem S1x1x512 .i32) (arg14 : Memref sig .tc .vmem S1x1x512 .i32) (arg15 : Memref sig .tc .vmem S1x1x512 .i32) (arg16 : Memref sig .tc .vmem S1x1x512 .i32)
    (x : Fin 8 → Vec F S1000x512 .f32) (y : Fin 8 → Vec F S1x1x512 .i32) : sProp 𝕄 :=
  iprop(owns (c : Thread nD τ) arg1 fullShare (x 0) ∗ owns (c : Thread nD τ) arg2 fullShare (x 1) ∗ owns (c : Thread nD τ) arg3 fullShare (x 2) ∗ owns (c : Thread nD τ) arg4 fullShare (x 3) ∗ owns (c : Thread nD τ) arg5 fullShare (x 4) ∗ owns (c : Thread nD τ) arg6 fullShare (x 5) ∗ owns (c : Thread nD τ) arg7 fullShare (x 6) ∗ owns (c : Thread nD τ) arg8 fullShare (x 7) ∗ owns (c : Thread nD τ) arg9 fullShare (y 0) ∗ owns (c : Thread nD τ) arg10 fullShare (y 1) ∗ owns (c : Thread nD τ) arg11 fullShare (y 2) ∗ owns (c : Thread nD τ) arg12 fullShare (y 3) ∗ owns (c : Thread nD τ) arg13 fullShare (y 4) ∗ owns (c : Thread nD τ) arg14 fullShare (y 5) ∗ owns (c : Thread nD τ) arg15 fullShare (y 6) ∗ owns (c : Thread nD τ) arg16 fullShare (y 7))

set_option maxHeartbeats 2000000 in
/-- A grid point before the last one: it writes eight rows of the scratch. -/
theorem body_mid (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S1000x512 .f32) (harg3 : arg3.IsWhole) (arg4 : Memref sig .tc .vmem S1000x512 .f32) (harg4 : arg4.IsWhole) (arg5 : Memref sig .tc .vmem S1000x512 .f32) (harg5 : arg5.IsWhole) (arg6 : Memref sig .tc .vmem S1000x512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .i32) (harg13 : arg13.IsWhole) (arg14 : Memref sig .tc .vmem S1x1x512 .i32) (harg14 : arg14.IsWhole) (arg15 : Memref sig .tc .vmem S1x1x512 .i32) (harg15 : arg15.IsWhole) (arg16 : Memref sig .tc .vmem S1x1x512 .i32) (harg16 : arg16.IsWhole) (arg17 : Memref sig .tc .smem S1x1 .f32) (harg17 : arg17.IsWhole) (arg18 : Memref sig .tc .vmem S32x512 .f32) (harg18 : arg18.IsWhole) (hc0 : ¬ k0_cond1 i = 1#1)
    (x : Fin 8 → Vec F S1000x512 .f32) (y : Fin 8 → Vec F S1x1x512 .i32) :
      ∀ (E : Set ℕ) (K : PUnit → sProp 𝕄),
        iprop(inputs c arg1 arg2 arg3 arg4 arg5 arg6 arg7 arg8 arg9 arg10 arg11 arg12 arg13 arg14 arg15 arg16 x y ∗ (∃ d, owns (c : Thread nD τ) arg17 fullShare d) ∗ (∃ d, owns (c : Thread nD τ) arg18 fullShare d)
            ∗ (iprop(inputs c arg1 arg2 arg3 arg4 arg5 arg6 arg7 arg8 arg9 arg10 arg11 arg12 arg13 arg14 arg15 arg16 x y ∗ (∃ d, owns (c : Thread nD τ) arg17 fullShare d) ∗ (∃ d, owns (c : Thread nD τ) arg18 fullShare d)) -∗ K ⟨⟩))
          ⊢ wp frame (wpE (defs₀ (F := F)) Variants.none c none) E (cc0__ohem_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__ohem_body_eq_skeleton]; unfold cc0__ohem_body_skel
    simp only [k0_part1_eq_skeleton, k0_part2_eq_skeleton, k0_part3_eq_skeleton, k0_part4_eq_skeleton, k0_part5_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, ⟨%d16, %f16, -, H16⟩, ⟨%ds0, %fs0, -, HS0⟩, Hk⟩
    sl_exec (disch := first | sl_exact hc0)
    sl_step
    iapply Hk
    isplitl [H0 H1 H2 H3 H4 H5 H6 H7 H8 H9 H10 H11 H12 H13 H14 H15]
    · isplitl [H0]; · iapply (owns_of c hf0); iexact H0
      isplitl [H1]; · iapply (owns_of c hf1); iexact H1
      isplitl [H2]; · iapply (owns_of c hf2); iexact H2
      isplitl [H3]; · iapply (owns_of c hf3); iexact H3
      isplitl [H4]; · iapply (owns_of c hf4); iexact H4
      isplitl [H5]; · iapply (owns_of c hf5); iexact H5
      isplitl [H6]; · iapply (owns_of c hf6); iexact H6
      isplitl [H7]; · iapply (owns_of c hf7); iexact H7
      isplitl [H8]; · iapply (owns_of c hf8); iexact H8
      isplitl [H9]; · iapply (owns_of c hf9); iexact H9
      isplitl [H10]; · iapply (owns_of c hf10); iexact H10
      isplitl [H11]; · iapply (owns_of c hf11); iexact H11
      isplitl [H12]; · iapply (owns_of c hf12); iexact H12
      isplitl [H13]; · iapply (owns_of c hf13); iexact H13
      isplitl [H14]; · iapply (owns_of c hf14); iexact H14
      iapply (owns_of c hf15); iexact H15
    isplitl [H16]
    · iexists _; iapply (owns_of c rfl); iexact H16
    iexists _; iapply (owns_of c rfl); iexact HS0

set_option maxHeartbeats 2000000 in
/-- The last grid point: it also runs both loops and writes the result cell. -/
theorem body_last (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S1000x512 .f32) (harg3 : arg3.IsWhole) (arg4 : Memref sig .tc .vmem S1000x512 .f32) (harg4 : arg4.IsWhole) (arg5 : Memref sig .tc .vmem S1000x512 .f32) (harg5 : arg5.IsWhole) (arg6 : Memref sig .tc .vmem S1000x512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .i32) (harg13 : arg13.IsWhole) (arg14 : Memref sig .tc .vmem S1x1x512 .i32) (harg14 : arg14.IsWhole) (arg15 : Memref sig .tc .vmem S1x1x512 .i32) (harg15 : arg15.IsWhole) (arg16 : Memref sig .tc .vmem S1x1x512 .i32) (harg16 : arg16.IsWhole) (arg17 : Memref sig .tc .smem S1x1 .f32) (harg17 : arg17.IsWhole) (arg18 : Memref sig .tc .vmem S32x512 .f32) (harg18 : arg18.IsWhole) (hc0 : k0_cond1 i = 1#1)
    (x : Fin 8 → Vec F S1000x512 .f32) (y : Fin 8 → Vec F S1x1x512 .i32) :
      ∀ (E : Set ℕ) (K : PUnit → sProp 𝕄),
        iprop(inputs c arg1 arg2 arg3 arg4 arg5 arg6 arg7 arg8 arg9 arg10 arg11 arg12 arg13 arg14 arg15 arg16 x y ∗ (∃ d, owns (c : Thread nD τ) arg17 fullShare d) ∗ (∃ d, owns (c : Thread nD τ) arg18 fullShare d)
            ∗ (iprop(inputs c arg1 arg2 arg3 arg4 arg5 arg6 arg7 arg8 arg9 arg10 arg11 arg12 arg13 arg14 arg15 arg16 x y ∗ (∃ d, owns (c : Thread nD τ) arg17 fullShare d) ∗ (∃ d, owns (c : Thread nD τ) arg18 fullShare d)) -∗ K ⟨⟩))
          ⊢ wp frame (wpE (defs₀ (F := F)) Variants.none c none) E (cc0__ohem_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__ohem_body_eq_skeleton]; unfold cc0__ohem_body_skel
    simp only [k0_part1_eq_skeleton, k0_part2_eq_skeleton, k0_part3_eq_skeleton, k0_part4_eq_skeleton, k0_part5_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, ⟨%d16, %f16, -, H16⟩, ⟨%ds0, %fs0, -, HS0⟩, Hk⟩
    sl_exec (disch := first | sl_exact hc0)
    sl_step
    iapply Hk
    isplitl [H0 H1 H2 H3 H4 H5 H6 H7 H8 H9 H10 H11 H12 H13 H14 H15]
    · isplitl [H0]; · iapply (owns_of c hf0); iexact H0
      isplitl [H1]; · iapply (owns_of c hf1); iexact H1
      isplitl [H2]; · iapply (owns_of c hf2); iexact H2
      isplitl [H3]; · iapply (owns_of c hf3); iexact H3
      isplitl [H4]; · iapply (owns_of c hf4); iexact H4
      isplitl [H5]; · iapply (owns_of c hf5); iexact H5
      isplitl [H6]; · iapply (owns_of c hf6); iexact H6
      isplitl [H7]; · iapply (owns_of c hf7); iexact H7
      isplitl [H8]; · iapply (owns_of c hf8); iexact H8
      isplitl [H9]; · iapply (owns_of c hf9); iexact H9
      isplitl [H10]; · iapply (owns_of c hf10); iexact H10
      isplitl [H11]; · iapply (owns_of c hf11); iexact H11
      isplitl [H12]; · iapply (owns_of c hf12); iexact H12
      isplitl [H13]; · iapply (owns_of c hf13); iexact H13
      isplitl [H14]; · iapply (owns_of c hf14); iexact H14
      iapply (owns_of c hf15); iexact H15
    isplitl [H16]
    · iexists _; iapply (owns_of c rfl); iexact H16
    iexists _; iapply (owns_of c rfl); iexact HS0

/-- Any grid point. -/
theorem body (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S1000x512 .f32) (harg3 : arg3.IsWhole) (arg4 : Memref sig .tc .vmem S1000x512 .f32) (harg4 : arg4.IsWhole) (arg5 : Memref sig .tc .vmem S1000x512 .f32) (harg5 : arg5.IsWhole) (arg6 : Memref sig .tc .vmem S1000x512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .i32) (harg13 : arg13.IsWhole) (arg14 : Memref sig .tc .vmem S1x1x512 .i32) (harg14 : arg14.IsWhole) (arg15 : Memref sig .tc .vmem S1x1x512 .i32) (harg15 : arg15.IsWhole) (arg16 : Memref sig .tc .vmem S1x1x512 .i32) (harg16 : arg16.IsWhole) (arg17 : Memref sig .tc .smem S1x1 .f32) (harg17 : arg17.IsWhole) (arg18 : Memref sig .tc .vmem S32x512 .f32) (harg18 : arg18.IsWhole)
    (x : Fin 8 → Vec F S1000x512 .f32) (y : Fin 8 → Vec F S1x1x512 .i32) :
      ∀ (E : Set ℕ) (K : PUnit → sProp 𝕄),
        iprop(inputs c arg1 arg2 arg3 arg4 arg5 arg6 arg7 arg8 arg9 arg10 arg11 arg12 arg13 arg14 arg15 arg16 x y ∗ (∃ d, owns (c : Thread nD τ) arg17 fullShare d) ∗ (∃ d, owns (c : Thread nD τ) arg18 fullShare d)
            ∗ (iprop(inputs c arg1 arg2 arg3 arg4 arg5 arg6 arg7 arg8 arg9 arg10 arg11 arg12 arg13 arg14 arg15 arg16 x y ∗ (∃ d, owns (c : Thread nD τ) arg17 fullShare d) ∗ (∃ d, owns (c : Thread nD τ) arg18 fullShare d)) -∗ K ⟨⟩))
          ⊢ wp frame (wpE (defs₀ (F := F)) Variants.none c none) E (cc0__ohem_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    by_cases hc : k0_cond1 i = 1#1
    · exact body_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x y
    · exact body_mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x y

end Cert.Ohem.Words

end
-- ==== Proof.Words.Frame.lean ====
/- The frame of the kernel over the words: it runs to its end, leaves its two arguments as they were and every counter at
   zero. Nothing is said here of what it computes. -/
module

public import proofs.«01_k».proof.Proof.Words.Body

@[expose] public section

set_option maxRecDepth 16384

noncomputable section

namespace Cert.Ohem.Words

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What a window that is live at a point leaves there. -/
theorem leaves_live {c : Dev nD} (dat : Dat τ (Elt F) Unit ℕ (UR sig nD τ) ℕ cfg0 c) (w : Fin cfg0.W) (t : Fin cfg0.N)
    (h : cfg0.idle w (cfg0.grid.coords t) = false) :
    dat.leavesExact w t = owns (c : Thread nD τ) ((cfg0.win w).stage (cfg0.slots t w)) fullShare (dat.after w t) := by
  unfold Dat.leavesExact; rw [h]

/-- The last branch is taken at the last point only. -/
theorem last_iff (t : Fin cfg0.N) : k0_cond1 (grid0.coords t) = 1#1 ↔ t.val = 3 := by
  have ht : t.val < 4 := Nat.lt_of_lt_of_eq t.isLt N_0
  have e0 : (grid0.coords t 0).val = t.val / 1 % 4 := Pipeline.Grid.coords_val t 0 (by decide) rfl
  simp only [k0_cond1, e0]
  have : t.val = 0 ∨ t.val = 1 ∨ t.val = 2 ∨ t.val = 3 := by omega
  rcases this with h | h | h | h <;> rw [h] <;> decide

/-- The kernel's scratch, as the buffer its body is called with. -/
abbrev scratch : Memref sig .tc .vmem S32x512 .f32 := Memref.whole cc0_scratch0

/-- What is at hand between the points of a kernel that names nothing: its scratch and the generator's register. -/
theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- The body table's row at a point's buffers is the body there. -/
theorem row_eq (t : Fin cfg0.N) : defs₀ (F := F) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-- The window of the result: what the kernel leaves in it is not named. -/
def unnamed : Fin 17 → Bool := fun w => w.val == 16

/-- The launch's data: each input window keeps its block; between the points nothing is known of the scratch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d
theorem before_13 (c : Dev nD) (t : Fin cfg0.N) (d) : (dats m 0 c).before 13 t d = iblk m c 13 t :=
  before0_13_of m (dats m 0 c) (A_eq m c 13) (fun _ => rfl) t d
theorem before_14 (c : Dev nD) (t : Fin cfg0.N) (d) : (dats m 0 c).before 14 t d = iblk m c 14 t :=
  before0_14_of m (dats m 0 c) (A_eq m c 14) (fun _ => rfl) t d
theorem before_15 (c : Dev nD) (t : Fin cfg0.N) (d) : (dats m 0 c).before 15 t d = iblk m c 15 t :=
  before0_15_of m (dats m 0 c) (A_eq m c 15) (fun _ => rfl) t d

/-- The logit blocks and the label rows of point `t`. -/
abbrev xs (c : Dev nD) (t : Fin cfg0.N) : Fin 8 → Vec F S1000x512 .f32 :=
  ![iblk m c 0 t, iblk m c 1 t, iblk m c 2 t, iblk m c 3 t, iblk m c 4 t, iblk m c 5 t, iblk m c 6 t, iblk m c 7 t]
abbrev ys (c : Dev nD) (t : Fin cfg0.N) : Fin 8 → Vec F S1x1x512 .i32 :=
  ![iblk m c 8 t, iblk m c 9 t, iblk m c 10 t, iblk m c 11 t, iblk m c 12 t, iblk m c 13 t, iblk m c 14 t, iblk m c 15 t]

/-- What a point is entered with. -/
def pre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ d, owns (c : Thread nD τ) ((cfg0.win 14).stage (cfg0.slots t 14)) fullShare ((dats m 0 c).before 14 t d))
    ∗ (∃ d, owns (c : Thread nD τ) ((cfg0.win 15).stage (cfg0.slots t 15)) fullShare ((dats m 0 c).before 15 t d))
    ∗ (∃ d, owns (c : Thread nD τ) ((cfg0.win 16).stage (cfg0.slots t 16)) fullShare d))

/-- What a point is left with. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) ((cfg0.win 16).stage (cfg0.slots t 16)) fullShare d))

set_option maxHeartbeats 3200000 in
/-- The body at any point. -/
theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15]
  rw [leaves_live (dats m 0 c) 0 t rfl, leaves_live (dats m 0 c) 1 t rfl, leaves_live (dats m 0 c) 2 t rfl, leaves_live (dats m 0 c) 3 t rfl, leaves_live (dats m 0 c) 4 t rfl, leaves_live (dats m 0 c) 5 t rfl, leaves_live (dats m 0 c) 6 t rfl, leaves_live (dats m 0 c) 7 t rfl, leaves_live (dats m 0 c) 8 t rfl, leaves_live (dats m 0 c) 9 t rfl, leaves_live (dats m 0 c) 10 t rfl, leaves_live (dats m 0 c) 11 t rfl, leaves_live (dats m 0 c) 12 t rfl, leaves_live (dats m 0 c) 13 t rfl, leaves_live (dats m 0 c) 14 t rfl, leaves_live (dats m 0 c) 15 t rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, rest_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body c (grid0.coords t) _ _ _ _ _ _ _ _ _ _ _ _ _ _ _ _ _ _ _ _ _ _ _ _ _ _ _ _ _ _ _ _ _ _ _ _ (xs m c t) (ys m c t) Set.univ _)
  isplitl [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexists _; iexact H16
  isplitl [HS]; · iexact HS
  iintro ⟨⟨H0, H1, H2, H3, H4, H5, H6, H7, H8, H9, H10, H11, H12, H13, H14, H15⟩, H16, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem obligation (c : Dev nD) : BodyObligation (dats (F := F) m 0 c) (defs₀ (F := F)) Variants.none () Set.univ unnamed := fun t => by
  rw [bigSep_W0, bigSep_W0, row_eq]
  exact triple_restated (point m c t) rfl .rfl fun _ => .rfl

/-- The one buffer written after the launch. -/
def tail : Finset (Ref sig .tc) := {main_v3}

theorem tail_writes : ∀ ops ∈ ([hostOps1] : List (List (HloOp τ sig (Elt F)))), ∀ op ∈ ops,
    ∀ b : Ref sig .tc, Proc.devRef .tc b ∈ op.writes → b ∈ tail := by
  intro ops hops op hop b hb
  obtain rfl := List.mem_singleton.mp hops
  simp only [hostOps1, List.mem_cons, List.mem_nil_iff, or_false] at hop
  subst hop
  simp only [StableHlo.reshape_writes, Finset.mem_singleton] at hb
  cases Proc.devRef_injective _ hb; decide

set_option backward.isDefEq.respectTransparency.types false in
/-- The frame at any floats. -/
theorem quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_T_forget_shared cfgs (dats m) (0 : Fin 1) launch₀0 (defs₀ (F := F)) Variants.none unnamed tail m ρ main
    (hbody := fun c => (obligation m c).loose) (hq := fun _ _ _ => rfl) (howed := fun _ _ => rfl)
    (V₀ := V0 m) (opss := [hostOps1]) (hsub := sfx_sub) (hfresh := sfx_fresh) (hkeep := sfx_keeps) (hT := tail_writes)
    (hmain := hmain m Variants.none) (hA := A_eq m) (hΦ := fun _ _ => rfl)
    (Q' := _)
    (hQ' := fun r h => ⟨fun c =>
      ⟨((h.1 c).2 main_arg0 (Finset.mem_sdiff.mpr ⟨Pipeline.mem_restRefs_of main_arg0 (by decide) (by decide), by decide⟩)).trans (V_main_arg0 m c),
        ((h.1 c).2 main_arg1 (Finset.mem_sdiff.mpr ⟨Pipeline.mem_restRefs_of main_arg1 (by decide) (by decide), by decide⟩)).trans (V_main_arg1 m c)⟩, h.2⟩)

end Cert.Ohem.Words

end
-- ==== Proof.Ideal.Body.lean ====
/- One grid point of the kernel, as a triple that says what the loss scratch and the result cell end with.

   A grid point reads eight blocks of logits and eight rows of labels, computes one row of 512 losses from each pair, and
   puts the eight rows into the scratch; the last point then reads the whole scratch and computes the result from it. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Ohem

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The 512 losses of one stream at one grid point, from its logits (class by sample) and its labels. -/
abbrev lossRow (x : Vec F S1000x512 .f32) (y : Vec F S1x1x512 .i32) : FVec F S1x512 .f32 := k0_pay8 x y

/-- The row of the scratch that stream `s` fills at point `i`. -/
abbrev rowRect (i : grid0.Coords) (s : Fin 8) : Rect S32x512 :=
  Rect.unit (s := S32x512) (k0_off1 i (BitVec.ofNat 32 (4 * s.val))) S1x512.size (k0_off1_inb i s)

/-- Scratch contents `d` agree with `G` on every row filled before point `n`: stream `s` fills row `4 s + n` there. -/
def RowsDone (G : Vec F S32x512 .f32) (n : Nat) (d : Vec F S32x512 .f32) : Prop := ∀ y, (y 0).val % 4 < n → d y = G y

/-- The trip of the rank loop. -/
abbrev rankStep (v : Vec F S32x512 .f32) (k : Fin k0_t1_loop.trips) (acc : IVec S32x512 32) : IVec S32x512 32 := k0_pay4 v k acc

/-- The trip of the bit search. -/
abbrev bitStep (b : IVec S32x512 32) (k : Fin k0_t2_loop.trips) (acc : BitVec 32) : BitVec 32 :=
  Scalar.select (Scalar.cmpi .sge (extractAt ![0, 0, 0] (k0_pay5 b k acc) inpos_S1x1x1_p0_0_0) 11468#32)
    (Scalar.ori acc (Scalar.shli 1#32 (Scalar.subi 30#32 (Scf.iv 0#32 1#32 k)))) acc

/-- The ranks of the losses `v`. -/
abbrev ranks (v : Vec F S32x512 .f32) : IVec S32x512 32 := Scf.fold (rankStep v) k0_pay3

/-- The rank at which the kept losses begin. -/
abbrev cut (b : IVec S32x512 32) : BitVec 32 := Scf.fold (bitStep b) 0#32

/-- What the last point computes from the whole scratch. -/
abbrev select (v : Vec F S32x512 .f32) : F .f32 := k0_pay6 v (ranks v) (cut (ranks v))

/-- A load of a whole logit block reads what its view reads. -/
theorem x_eq {m : Memref sig .tc .vmem S1000x512 .f32} (_ : m.IsWhole) {f : m.view.ty.Contents (Elt F)} {x : Vec F S1000x512 .f32}
    (h : m.view.read (Elt F) f = x) :
    x = m.view.readAt (Elt F) (Rect.unit ![0, 0] S1000x512.size inb_S1000x512_S1000x512_0_0).toLoadRect f :=
  h.symm.trans (View.readAt_full _ f _).symm

/-- A load of a whole label row reads what its view reads. -/
theorem y_eq {m : Memref sig .tc .vmem S1x1x512 .i32} (_ : m.IsWhole) {f : m.view.ty.Contents (Elt F)} {y : Vec F S1x1x512 .i32}
    (h : m.view.read (Elt F) f = y) :
    y = m.view.readAt (Elt F) (Rect.unit ![0, 0, 0] S1x1x512.size inb_S1x1x512_S1x1x512_0_0_0).toLoadRect f :=
  h.symm.trans (View.readAt_full _ f _).symm

/-- A row of the scratch lies in the row that stream `s` fills at point `i` exactly when it is row `4 s + i`. -/
theorem mem_rowRect (i : grid0.Coords) (s : Fin 8) (y : S32x512.Idx) : y ∈ (rowRect i s).set ↔ (y 0).val = 4 * s.val + (i 0).val := by
  have hi : (i 0).val < 4 := (i 0).isLt
  have hs := s.isLt
  have h0 : k0_off1 i (BitVec.ofNat 32 (4 * s.val)) 0 = 4 * s.val + (i 0).val := by
    show (Scalar.addi (BitVec.ofNat 32 (4 * s.val)) (BitVec.ofNat 32 (i 0).val)).toNat = _
    show (BitVec.ofNat 32 (4 * s.val) + BitVec.ofNat 32 (i 0).val).toNat = _
    rw [BitVec.toNat_add, BitVec.toNat_ofNat, BitVec.toNat_ofNat]; omega
  rw [Rect.mem_set_unit]
  constructor
  · intro h
    have := h 0
    rw [h0] at this
    have h1 : S1x512.size 0 = 1 := rfl
    omega
  · intro h a
    fin_cases a
    · show k0_off1 i _ 0 ≤ (y 0).val ∧ (y 0).val < k0_off1 i _ 0 + 1
      rw [h0]; omega
    · exact ⟨Nat.zero_le _, by show (y 1).val < 0 + 512; have := (y 1).isLt; simpa using this⟩

/-- The eight writes of point `n`, each of the row `G` has there, extend the agreement with `G` by the rows of that point. -/
theorem rows_written {sp : Space} (v : View sig .tc sp S32x512 .f32) (f : v.ty.Contents (Elt F)) (i : grid0.Coords) (n : Nat) (hi : (i 0).val = n)
    (G d : Vec F S32x512 .f32) (hf : v.read (Elt F) f = d) (hd : RowsDone G n d)
    (p : (s : Fin 8) → (rowRect i s).shape.Idx → Elt F .f32) (hp : ∀ s z, G ((rowRect i s).emb z) = p s z) :
    RowsDone G (n + 1) (v.read (Elt F) (v.writes (Elt F) f [⟨rowRect i 7, p 7⟩, ⟨rowRect i 6, p 6⟩, ⟨rowRect i 5, p 5⟩, ⟨rowRect i 4, p 4⟩,
      ⟨rowRect i 3, p 3⟩, ⟨rowRect i 2, p 2⟩, ⟨rowRect i 1, p 1⟩, ⟨rowRect i 0, p 0⟩])) := by
  intro y hy
  by_cases h : (y 0).val % 4 = n
  · refine View.read_writes_apply_of_pieces v f G _ ?_ y ?_
    · intro q hq z
      simp only [List.mem_cons, List.not_mem_nil, or_false] at hq
      rcases hq with rfl | rfl | rfl | rfl | rfl | rfl | rfl | rfl <;> exact (hp _ z).symm
    · have h8 : (y 0).val < 32 := (y 0).isLt
      have hm : y ∈ (rowRect i ⟨(y 0).val / 4, by omega⟩).set := (mem_rowRect i _ y).mpr (by show _ = 4 * ((y 0).val / 4) + _; omega)
      revert hm
      generalize (⟨(y 0).val / 4, _⟩ : Fin 8) = s
      intro hm
      refine ⟨⟨rowRect i s, p s⟩, ?_, hm⟩
      fin_cases s <;> simp
  · rw [View.read_writes_apply_of_forall_not_mem v f y, hf]
    · exact hd y (by omega)
    · intro q hq
      simp only [List.mem_cons, List.not_mem_nil, or_false] at hq
      rcases hq with rfl | rfl | rfl | rfl | rfl | rfl | rfl | rfl <;>
        exact fun hm => h (by have := (mem_rowRect i _ y).mp hm; simp only [this]; have : (i 0).val < 4 := (i 0).isLt; omega)

/-- Agreement on all four points' rows is equality. -/
theorem RowsDone.eq {G d : Vec F S32x512 .f32} (h : RowsDone G 4 d) : d = G := funext fun y => h y (Nat.mod_lt _ (by decide))

/-- A buffer held at contents `f` is owned at what its view reads of them. -/
theorem owns_of (c : Thread nD τ) {sp : Space} {s : Shape} {e : EltTy} {m : Memref sig c.2.kind sp s e} {f : m.view.ty.Contents (Elt F)}
    {x : s.Idx → Elt F e} (h : m.view.read (Elt F) f = x) :
    (iprop(m.view.loc c ↦[m.view.set]{fullShare} f) : sProp 𝕄) ⊢
      iprop(∃ f, ⌜m.view.read (Elt F) f = x⌝ ∗ (m.view.loc c ↦[m.view.set]{fullShare} f)) := by
  iintro H
  iexists f
  isplitr
  · ipureintro; exact h
  iexact H

/-- The sixteen input blocks of a grid point: the logits `x s` and the labels `y s` of each stream `s`. -/
abbrev inputs (c : Dev nD) (arg1 : Memref sig .tc .vmem S1000x512 .f32) (arg2 : Memref sig .tc .vmem S1000x512 .f32) (arg3 : Memref sig .tc .vmem S1000x512 .f32) (arg4 : Memref sig .tc .vmem S1000x512 .f32) (arg5 : Memref sig .tc .vmem S1000x512 .f32) (arg6 : Memref sig .tc .vmem S1000x512 .f32) (arg7 : Memref sig .tc .vmem S1000x512 .f32) (arg8 : Memref sig .tc .vmem S1000x512 .f32) (arg9 : Memref sig .tc .vmem S1x1x512 .i32) (arg10 : Memref sig .tc .vmem S1x1x512 .i32) (arg11 : Memref sig .tc .vmem S1x1x512 .i32) (arg12 : Memref sig .tc .vmem S1x1x512 .i32) (arg13 : Memref sig .tc .vmem S1x1x512 .i32) (arg14 : Memref sig .tc .vmem S1x1x512 .i32) (arg15 : Memref sig .tc .vmem S1x1x512 .i32) (arg16 : Memref sig .tc .vmem S1x1x512 .i32)
    (x : Fin 8 → Vec F S1000x512 .f32) (y : Fin 8 → Vec F S1x1x512 .i32) : sProp 𝕄 :=
  iprop(owns (c : Thread nD τ) arg1 fullShare (x 0) ∗ owns (c : Thread nD τ) arg2 fullShare (x 1) ∗ owns (c : Thread nD τ) arg3 fullShare (x 2) ∗ owns (c : Thread nD τ) arg4 fullShare (x 3) ∗ owns (c : Thread nD τ) arg5 fullShare (x 4) ∗ owns (c : Thread nD τ) arg6 fullShare (x 5) ∗ owns (c : Thread nD τ) arg7 fullShare (x 6) ∗ owns (c : Thread nD τ) arg8 fullShare (x 7) ∗ owns (c : Thread nD τ) arg9 fullShare (y 0) ∗ owns (c : Thread nD τ) arg10 fullShare (y 1) ∗ owns (c : Thread nD τ) arg11 fullShare (y 2) ∗ owns (c : Thread nD τ) arg12 fullShare (y 3) ∗ owns (c : Thread nD τ) arg13 fullShare (y 4) ∗ owns (c : Thread nD τ) arg14 fullShare (y 5) ∗ owns (c : Thread nD τ) arg15 fullShare (y 6) ∗ owns (c : Thread nD τ) arg16 fullShare (y 7))

set_option maxHeartbeats 2000000 in
/-- A grid point `n` before the last one: the scratch then agrees with `G` on one point more. -/
theorem body_mid (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S1000x512 .f32) (harg3 : arg3.IsWhole) (arg4 : Memref sig .tc .vmem S1000x512 .f32) (harg4 : arg4.IsWhole) (arg5 : Memref sig .tc .vmem S1000x512 .f32) (harg5 : arg5.IsWhole) (arg6 : Memref sig .tc .vmem S1000x512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .i32) (harg13 : arg13.IsWhole) (arg14 : Memref sig .tc .vmem S1x1x512 .i32) (harg14 : arg14.IsWhole) (arg15 : Memref sig .tc .vmem S1x1x512 .i32) (harg15 : arg15.IsWhole) (arg16 : Memref sig .tc .vmem S1x1x512 .i32) (harg16 : arg16.IsWhole) (arg17 : Memref sig .tc .smem S1x1 .f32) (harg17 : arg17.IsWhole) (arg18 : Memref sig .tc .vmem S32x512 .f32) (harg18 : arg18.IsWhole) (hc0 : ¬ k0_cond1 i = 1#1)
    (x : Fin 8 → Vec F S1000x512 .f32) (y : Fin 8 → Vec F S1x1x512 .i32) (n : Nat) (hi : (i 0).val = n)
    (G d : Vec F S32x512 .f32) (hd : RowsDone G n d) (hG : ∀ s z, G ((rowRect i s).emb z) = lossRow (x s) (y s) z) (d16 : Vec F S1x1 .f32) :
      ∀ (E : Set ℕ) (K : PUnit → sProp 𝕄),
        iprop(inputs c arg1 arg2 arg3 arg4 arg5 arg6 arg7 arg8 arg9 arg10 arg11 arg12 arg13 arg14 arg15 arg16 x y ∗ owns (c : Thread nD τ) arg17 fullShare d16 ∗ owns (c : Thread nD τ) arg18 fullShare d
            ∗ (iprop(inputs c arg1 arg2 arg3 arg4 arg5 arg6 arg7 arg8 arg9 arg10 arg11 arg12 arg13 arg14 arg15 arg16 x y ∗ owns (c : Thread nD τ) arg17 fullShare d16 ∗ (∃ d', ⌜RowsDone G (n + 1) d'⌝ ∗ owns (c : Thread nD τ) arg18 fullShare d')) -∗ K ⟨⟩))
          ⊢ wp frame (wpE (defs₀ (F := F)) Variants.none c none) E (cc0__ohem_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__ohem_body_eq_skeleton]; unfold cc0__ohem_body_skel
    simp only [k0_part1_eq_skeleton, k0_part2_eq_skeleton, k0_part3_eq_skeleton, k0_part4_eq_skeleton, k0_part5_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, ⟨%f16, %hf16, H16⟩, ⟨%fs0, %hfs0, HS0⟩, Hk⟩
    sl_exec (disch := first | sl_exact hc0)
    sl_step
    iapply Hk
    isplitl [H0 H1 H2 H3 H4 H5 H6 H7 H8 H9 H10 H11 H12 H13 H14 H15]
    · isplitl [H0]; · iapply (owns_of c hf0); iexact H0
      isplitl [H1]; · iapply (owns_of c hf1); iexact H1
      isplitl [H2]; · iapply (owns_of c hf2); iexact H2
      isplitl [H3]; · iapply (owns_of c hf3); iexact H3
      isplitl [H4]; · iapply (owns_of c hf4); iexact H4
      isplitl [H5]; · iapply (owns_of c hf5); iexact H5
      isplitl [H6]; · iapply (owns_of c hf6); iexact H6
      isplitl [H7]; · iapply (owns_of c hf7); iexact H7
      isplitl [H8]; · iapply (owns_of c hf8); iexact H8
      isplitl [H9]; · iapply (owns_of c hf9); iexact H9
      isplitl [H10]; · iapply (owns_of c hf10); iexact H10
      isplitl [H11]; · iapply (owns_of c hf11); iexact H11
      isplitl [H12]; · iapply (owns_of c hf12); iexact H12
      isplitl [H13]; · iapply (owns_of c hf13); iexact H13
      isplitl [H14]; · iapply (owns_of c hf14); iexact H14
      iapply (owns_of c hf15); iexact H15
    have hr : RowsDone G (n + 1) (arg18.view.read (Elt F) (arg18.view.writes (Elt F) fs0
        [⟨rowRect i 7, lossRow (x 7) (y 7)⟩, ⟨rowRect i 6, lossRow (x 6) (y 6)⟩, ⟨rowRect i 5, lossRow (x 5) (y 5)⟩,
          ⟨rowRect i 4, lossRow (x 4) (y 4)⟩, ⟨rowRect i 3, lossRow (x 3) (y 3)⟩, ⟨rowRect i 2, lossRow (x 2) (y 2)⟩,
          ⟨rowRect i 1, lossRow (x 1) (y 1)⟩, ⟨rowRect i 0, lossRow (x 0) (y 0)⟩])) :=
      rows_written arg18.view fs0 i n hi G d hfs0 hd (fun s => lossRow (x s) (y s)) hG
    rw [x_eq harg1 hf0, x_eq harg2 hf1, x_eq harg3 hf2, x_eq harg4 hf3, x_eq harg5 hf4, x_eq harg6 hf5, x_eq harg7 hf6, x_eq harg8 hf7, y_eq harg9 hf8, y_eq harg10 hf9, y_eq harg11 hf10, y_eq harg12 hf11, y_eq harg13 hf12, y_eq harg14 hf13, y_eq harg15 hf14, y_eq harg16 hf15] at hr
    isplitl [H16]; · iapply (owns_of c hf16); iexact H16
    iexists _
    isplitr
    · ipureintro; exact hr
    iapply (owns_of c rfl); iexact HS0

set_option maxHeartbeats 2000000 in
/-- The last grid point: the scratch then is `G`, and the result cell holds what is computed from `G`. -/
theorem body_last (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S1000x512 .f32) (harg3 : arg3.IsWhole) (arg4 : Memref sig .tc .vmem S1000x512 .f32) (harg4 : arg4.IsWhole) (arg5 : Memref sig .tc .vmem S1000x512 .f32) (harg5 : arg5.IsWhole) (arg6 : Memref sig .tc .vmem S1000x512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .i32) (harg13 : arg13.IsWhole) (arg14 : Memref sig .tc .vmem S1x1x512 .i32) (harg14 : arg14.IsWhole) (arg15 : Memref sig .tc .vmem S1x1x512 .i32) (harg15 : arg15.IsWhole) (arg16 : Memref sig .tc .vmem S1x1x512 .i32) (harg16 : arg16.IsWhole) (arg17 : Memref sig .tc .smem S1x1 .f32) (harg17 : arg17.IsWhole) (arg18 : Memref sig .tc .vmem S32x512 .f32) (harg18 : arg18.IsWhole) (hc0 : k0_cond1 i = 1#1)
    (x : Fin 8 → Vec F S1000x512 .f32) (y : Fin 8 → Vec F S1x1x512 .i32) (n : Nat) (hi : (i 0).val = n)
    (G d : Vec F S32x512 .f32) (hd : RowsDone G n d) (hG : ∀ s z, G ((rowRect i s).emb z) = lossRow (x s) (y s) z) (hn : n = 3) (d16 : Vec F S1x1 .f32) :
      ∀ (E : Set ℕ) (K : PUnit → sProp 𝕄),
        iprop(inputs c arg1 arg2 arg3 arg4 arg5 arg6 arg7 arg8 arg9 arg10 arg11 arg12 arg13 arg14 arg15 arg16 x y ∗ owns (c : Thread nD τ) arg17 fullShare d16 ∗ owns (c : Thread nD τ) arg18 fullShare d
            ∗ (iprop(inputs c arg1 arg2 arg3 arg4 arg5 arg6 arg7 arg8 arg9 arg10 arg11 arg12 arg13 arg14 arg15 arg16 x y ∗ owns (c : Thread nD τ) arg17 fullShare (fun _ => select G) ∗ owns (c : Thread nD τ) arg18 fullShare G) -∗ K ⟨⟩))
          ⊢ wp frame (wpE (defs₀ (F := F)) Variants.none c none) E (cc0__ohem_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__ohem_body_eq_skeleton]; unfold cc0__ohem_body_skel
    simp only [k0_part1_eq_skeleton, k0_part2_eq_skeleton, k0_part3_eq_skeleton, k0_part4_eq_skeleton, k0_part5_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, ⟨%f16, %hf16, H16⟩, ⟨%fs0, %hfs0, HS0⟩, Hk⟩
    sl_exec (disch := first | sl_exact hc0)
    sl_step
    iapply Hk
    isplitl [H0 H1 H2 H3 H4 H5 H6 H7 H8 H9 H10 H11 H12 H13 H14 H15]
    · isplitl [H0]; · iapply (owns_of c hf0); iexact H0
      isplitl [H1]; · iapply (owns_of c hf1); iexact H1
      isplitl [H2]; · iapply (owns_of c hf2); iexact H2
      isplitl [H3]; · iapply (owns_of c hf3); iexact H3
      isplitl [H4]; · iapply (owns_of c hf4); iexact H4
      isplitl [H5]; · iapply (owns_of c hf5); iexact H5
      isplitl [H6]; · iapply (owns_of c hf6); iexact H6
      isplitl [H7]; · iapply (owns_of c hf7); iexact H7
      isplitl [H8]; · iapply (owns_of c hf8); iexact H8
      isplitl [H9]; · iapply (owns_of c hf9); iexact H9
      isplitl [H10]; · iapply (owns_of c hf10); iexact H10
      isplitl [H11]; · iapply (owns_of c hf11); iexact H11
      isplitl [H12]; · iapply (owns_of c hf12); iexact H12
      isplitl [H13]; · iapply (owns_of c hf13); iexact H13
      isplitl [H14]; · iapply (owns_of c hf14); iexact H14
      iapply (owns_of c hf15); iexact H15
    have hr : RowsDone G (n + 1) (arg18.view.read (Elt F) (arg18.view.writes (Elt F) fs0
        [⟨rowRect i 7, lossRow (x 7) (y 7)⟩, ⟨rowRect i 6, lossRow (x 6) (y 6)⟩, ⟨rowRect i 5, lossRow (x 5) (y 5)⟩,
          ⟨rowRect i 4, lossRow (x 4) (y 4)⟩, ⟨rowRect i 3, lossRow (x 3) (y 3)⟩, ⟨rowRect i 2, lossRow (x 2) (y 2)⟩,
          ⟨rowRect i 1, lossRow (x 1) (y 1)⟩, ⟨rowRect i 0, lossRow (x 0) (y 0)⟩])) :=
      rows_written arg18.view fs0 i n hi G d hfs0 hd (fun s => lossRow (x s) (y s)) hG
    rw [x_eq harg1 hf0, x_eq harg2 hf1, x_eq harg3 hf2, x_eq harg4 hf3, x_eq harg5 hf4, x_eq harg6 hf5, x_eq harg7 hf6, x_eq harg8 hf7, y_eq harg9 hf8, y_eq harg10 hf9, y_eq harg11 hf10, y_eq harg12 hf11, y_eq harg13 hf12, y_eq harg14 hf13, y_eq harg15 hf14, y_eq harg16 hf15] at hr
    subst hn
    isplitl [H16]
    · iapply (owns_of c (?_ : arg17.view.read (Elt F) _ = _))
      swap
      · iexact H16
      refine funext fun z => ?_
      refine (View.read_writes_cons_hit_of_coords arg17.view f16 _ _ [] z z fun a => ?_).trans ?_
      · fin_cases a <;> simp
      · show select (arg18.view.readAt (Elt F) (Rect.unit ![0, 0] S32x512.size inb_S32x512_S32x512_0_0).toLoadRect _) = select G
        rw [View.readAt_full]
        exact congrArg select hr.eq
    iapply (owns_of c hr.eq); iexact HS0

/-- Any grid point. -/
theorem body (c : Dev nD) (i : grid0.Coords) (arg1 : Memref sig .tc .vmem S1000x512 .f32) (harg1 : arg1.IsWhole) (arg2 : Memref sig .tc .vmem S1000x512 .f32) (harg2 : arg2.IsWhole) (arg3 : Memref sig .tc .vmem S1000x512 .f32) (harg3 : arg3.IsWhole) (arg4 : Memref sig .tc .vmem S1000x512 .f32) (harg4 : arg4.IsWhole) (arg5 : Memref sig .tc .vmem S1000x512 .f32) (harg5 : arg5.IsWhole) (arg6 : Memref sig .tc .vmem S1000x512 .f32) (harg6 : arg6.IsWhole) (arg7 : Memref sig .tc .vmem S1000x512 .f32) (harg7 : arg7.IsWhole) (arg8 : Memref sig .tc .vmem S1000x512 .f32) (harg8 : arg8.IsWhole) (arg9 : Memref sig .tc .vmem S1x1x512 .i32) (harg9 : arg9.IsWhole) (arg10 : Memref sig .tc .vmem S1x1x512 .i32) (harg10 : arg10.IsWhole) (arg11 : Memref sig .tc .vmem S1x1x512 .i32) (harg11 : arg11.IsWhole) (arg12 : Memref sig .tc .vmem S1x1x512 .i32) (harg12 : arg12.IsWhole) (arg13 : Memref sig .tc .vmem S1x1x512 .i32) (harg13 : arg13.IsWhole) (arg14 : Memref sig .tc .vmem S1x1x512 .i32) (harg14 : arg14.IsWhole) (arg15 : Memref sig .tc .vmem S1x1x512 .i32) (harg15 : arg15.IsWhole) (arg16 : Memref sig .tc .vmem S1x1x512 .i32) (harg16 : arg16.IsWhole) (arg17 : Memref sig .tc .smem S1x1 .f32) (harg17 : arg17.IsWhole) (arg18 : Memref sig .tc .vmem S32x512 .f32) (harg18 : arg18.IsWhole)
    (x : Fin 8 → Vec F S1000x512 .f32) (y : Fin 8 → Vec F S1x1x512 .i32) (n : Nat) (hi : (i 0).val = n) (hlast : k0_cond1 i = 1#1 ↔ n = 3)
    (G d : Vec F S32x512 .f32) (hd : RowsDone G n d) (hG : ∀ s z, G ((rowRect i s).emb z) = lossRow (x s) (y s) z) (d16 : Vec F S1x1 .f32) :
      ∀ (E : Set ℕ) (K : PUnit → sProp 𝕄),
        iprop(inputs c arg1 arg2 arg3 arg4 arg5 arg6 arg7 arg8 arg9 arg10 arg11 arg12 arg13 arg14 arg15 arg16 x y ∗ owns (c : Thread nD τ) arg17 fullShare d16 ∗ owns (c : Thread nD τ) arg18 fullShare d
            ∗ (iprop(inputs c arg1 arg2 arg3 arg4 arg5 arg6 arg7 arg8 arg9 arg10 arg11 arg12 arg13 arg14 arg15 arg16 x y ∗ owns (c : Thread nD τ) arg17 fullShare (if k0_cond1 i = 1#1 then (fun _ => select G : Vec F S1x1 .f32) else d16) ∗ (∃ d', ⌜RowsDone G (n + 1) d'⌝ ∗ owns (c : Thread nD τ) arg18 fullShare d')) -∗ K ⟨⟩))
          ⊢ wp frame (wpE (defs₀ (F := F)) Variants.none c none) E (cc0__ohem_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    by_cases hc : k0_cond1 i = 1#1
    · rw [if_pos hc]
      refine BI.BIBase.Entails.trans ?_ (body_last c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x y n hi G d hd hG (hlast.mp hc) d16 E K)
      iintro ⟨Hin, H16, HS, Hk⟩
      isplitl [Hin]; · iexact Hin
      isplitl [H16]; · iexact H16
      isplitl [HS]; · iexact HS
      iintro ⟨Hin, H16, HS⟩
      iapply Hk
      isplitl [Hin]; · iexact Hin
      isplitl [H16]; · iexact H16
      iexists G; isplitr; · ipureintro; exact fun _ _ => rfl
      iexact HS
    · rw [if_neg hc]
      exact body_mid c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x y n hi G d hd hG d16 E K

end Cert.Ohem

end
-- ==== Proof.Ideal.Frame.lean ====
/- The run of the kernel over the idealised floats: what the result array ends holding, the arguments as they were, and
   every counter at zero.

   Between the points the scratch holds, on the rows that the points so far have filled, the losses of those rows. After
   the last point all 32 rows are filled, and that point writes what it selects from them. -/
module

public import proofs.«01_k».proof.Proof.Ideal.Body
public import Idealize.ShloMosaic.Lib.Pipeline.Value

@[expose] public section

set_option maxRecDepth 16384

noncomputable section

namespace Cert.Ohem

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What a window that is live at a point leaves there. -/
theorem leaves_live {c : Dev nD} (dat : Dat τ (Elt F) Unit ℕ (UR sig nD τ) ℕ cfg0 c) (w : Fin cfg0.W) (t : Fin cfg0.N)
    (h : cfg0.idle w (cfg0.grid.coords t) = false) :
    dat.leavesExact w t = owns (c : Thread nD τ) ((cfg0.win w).stage (cfg0.slots t w)) fullShare (dat.after w t) := by
  unfold Dat.leavesExact; rw [h]

/-- The last branch is taken at the last point only. -/
theorem last_iff (t : Fin cfg0.N) : k0_cond1 (grid0.coords t) = 1#1 ↔ t.val = 3 := by
  have ht : t.val < 4 := Nat.lt_of_lt_of_eq t.isLt N_0
  have e0 : (grid0.coords t 0).val = t.val / 1 % 4 := Pipeline.Grid.coords_val t 0 (by decide) rfl
  simp only [k0_cond1, e0]
  have : t.val = 0 ∨ t.val = 1 ∨ t.val = 2 ∨ t.val = 3 := by omega
  rcases this with h | h | h | h <;> rw [h] <;> decide

/-- The kernel's scratch, as the buffer its body is called with. -/
abbrev scratch : Memref sig .tc .vmem S32x512 .f32 := Memref.whole cc0_scratch0

/-- What is at hand between the points of a kernel that names nothing: its scratch and the generator's register. -/
theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- The body table's row at a point's buffers is the body there. -/
theorem row_eq (t : Fin cfg0.N) : defs₀ (F := F) .tc cfg0.body (cfg0.bodyArgs t (cfg0.slots t)) = bodyAt0 t := by
  unfold defs₀; rw [Defs.onTc_tc]

/-- The grid's one coordinate at point `t` is `t`. -/
theorem coord_eq (t : Fin cfg0.N) : ((grid0.coords t) 0).val = t.val := by
  have ht : t.val < 4 := Nat.lt_of_lt_of_eq t.isLt N_0
  have e0 : (grid0.coords t 0).val = t.val / 1 % 4 := Pipeline.Grid.coords_val t 0 (by decide) rfl
  omega

variable (m : (ℓ : Loc nD τ sig) → Buf (Elt F) ℓ) (ρ : Dev nD → PrngReg)

/-- The logit blocks and the label rows of point `t`. -/
abbrev xs (c : Dev nD) (t : Fin cfg0.N) : Fin 8 → Vec F S1000x512 .f32 :=
  ![iblk m c 0 t, iblk m c 1 t, iblk m c 2 t, iblk m c 3 t, iblk m c 4 t, iblk m c 5 t, iblk m c 6 t, iblk m c 7 t]
abbrev ys (c : Dev nD) (t : Fin cfg0.N) : Fin 8 → Vec F S1x1x512 .i32 :=
  ![iblk m c 8 t, iblk m c 9 t, iblk m c 10 t, iblk m c 11 t, iblk m c 12 t, iblk m c 13 t, iblk m c 14 t, iblk m c 15 t]

/-- The point at which a row of the scratch is filled. -/
def pointOf (y : S32x512.Idx) : Fin cfg0.N := ⟨(y 0).val % 4, Nat.lt_of_lt_of_eq (Nat.mod_lt _ (by decide)) N_0.symm⟩

/-- The stream that fills a row of the scratch. -/
def streamOf (y : S32x512.Idx) : Fin 8 := ⟨(y 0).val / 4, by have h : (y 0).val < 32 := (y 0).isLt; omega⟩

/-- A column of the scratch, as a column of a row of losses. -/
def colOf (y : S32x512.Idx) : S1x512.Idx := fun a => match a with
  | ⟨0, _⟩ => (0 : Fin 1)
  | ⟨1, _⟩ => (y 1 : Fin 512)

/-- All the losses, as the scratch holds them in the end. -/
def losses (c : Dev nD) : Vec F S32x512 .f32 := fun y =>
  lossRow (xs m c (pointOf y) (streamOf y)) (ys m c (pointOf y) (streamOf y)) (colOf y)

/-- On the row that stream `s` fills at point `t`, they are that stream's row of losses. -/
theorem losses_row (c : Dev nD) (t : Fin cfg0.N) (s : Fin 8) (z : (rowRect (grid0.coords t) s).shape.Idx) :
    losses m c ((rowRect (grid0.coords t) s).emb z) = lossRow (xs m c t s) (ys m c t s) z := by
  have ht : t.val < 4 := Nat.lt_of_lt_of_eq t.isLt N_0
  have h0 : (((rowRect (grid0.coords t) s).emb z) 0).val = 4 * s.val + t.val := by
    rw [← coord_eq t]; exact (mem_rowRect _ s _).mp ((rowRect (grid0.coords t) s).idx_mem z)
  have h1 : (((rowRect (grid0.coords t) s).emb z) 1).val = (z 1).val := by
    show 0 + 1 * (z 1).val = (z 1).val
    omega
  have hz0 : (z 0).val = 0 := by have h : (z 0).val < 1 := (z 0).isLt; omega
  unfold losses
  rw [show pointOf ((rowRect (grid0.coords t) s).emb z) = t from Fin.ext (by show (_ : Fin 32).val % 4 = t.val; rw [h0]; omega),
    show streamOf ((rowRect (grid0.coords t) s).emb z) = s from Fin.ext (by show (_ : Fin 32).val / 4 = s.val; rw [h0]; omega)]
  refine congrArg _ (funext fun a => ?_)
  match a with
  | ⟨0, _⟩ => exact Fin.ext hz0.symm
  | ⟨1, _⟩ => exact Fin.ext h1

/-- The result: what the last point selects from all the losses. -/
abbrev result (c : Dev nD) : Vec F S1x1 .f32 := fun _ => select (losses m c)

/-- The launch's data: each input window keeps its block, the result's window ends at the result, and before point `t` the
    scratch holds the losses of the rows that the points before `t` fill. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => result m c
    | ⟨_ + 17, h⟩ => absurd h (Nat.not_lt.2 (Nat.le_add_left _ _))
  Φ t := iprop((∃ d, ⌜RowsDone (losses m c) t.val d⌝ ∗ owns (c : Thread nD τ) scratch fullShare d) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d
theorem before_13 (c : Dev nD) (t : Fin cfg0.N) (d) : (dats m 0 c).before 13 t d = iblk m c 13 t :=
  before0_13_of m (dats m 0 c) (A_eq m c 13) (fun _ => rfl) t d
theorem before_14 (c : Dev nD) (t : Fin cfg0.N) (d) : (dats m 0 c).before 14 t d = iblk m c 14 t :=
  before0_14_of m (dats m 0 c) (A_eq m c 14) (fun _ => rfl) t d
theorem before_15 (c : Dev nD) (t : Fin cfg0.N) (d) : (dats m 0 c).before 15 t d = iblk m c 15 t :=
  before0_15_of m (dats m 0 c) (A_eq m c 15) (fun _ => rfl) t d

/-- The result's window is left alone at a point before the last. -/
theorem leaves_mid (c : Dev nD) (t : Fin cfg0.N) (h : ¬ k0_cond1 (grid0.coords t) = 1#1) (d) :
    owns (c : Thread nD τ) ((cfg0.win 16).stage (cfg0.slots t 16)) fullShare ((dats m 0 c).before 16 t d)
      ⊢ (dats m 0 c).leavesExact 16 t := by
  have ht : t.val < 4 := Nat.lt_of_lt_of_eq t.isLt N_0
  have hf : (cfg0.win 16).flush t = false := by
    rw [← Bool.not_eq_true, flush0_16]
    intro hh; exact h ((last_iff t).mpr (by omega))
  have hi : cfg0.idle 16 (cfg0.grid.coords t) = true := by
    show (!(k0_cond1 (grid0.coords t) == 1#1)) = true
    simp [h]
  rw [(dats m 0 c).leavesExact_idle 16 t hi hf]
  iintro H; iexists d; iexact H

/-- The last point leaves the result in the result's window. -/
theorem leaves_last (c : Dev nD) (t : Fin cfg0.N) (h : k0_cond1 (grid0.coords t) = 1#1) :
    owns (c : Thread nD τ) ((cfg0.win 16).stage (cfg0.slots t 16)) fullShare (result m c)
      ⊢ (dats m 0 c).leavesExact 16 t := by
  have hi : cfg0.idle 16 (cfg0.grid.coords t) = false := by
    show (!(k0_cond1 (grid0.coords t) == 1#1)) = false
    simp [h]
  rw [leaves_live (dats m 0 c) 16 t hi]
  exact .rfl

/-- What a point is entered with. -/
def pre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ d, owns (c : Thread nD τ) ((cfg0.win 14).stage (cfg0.slots t 14)) fullShare ((dats m 0 c).before 14 t d))
    ∗ (∃ d, owns (c : Thread nD τ) ((cfg0.win 15).stage (cfg0.slots t 15)) fullShare ((dats m 0 c).before 15 t d))
    ∗ (∃ d, owns (c : Thread nD τ) ((cfg0.win 16).stage (cfg0.slots t 16)) fullShare ((dats m 0 c).before 16 t d)))

/-- What a point is left with. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 3200000 in
/-- The body at any point. -/
theorem point (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15]
  rw [leaves_live (dats m 0 c) 0 t rfl, leaves_live (dats m 0 c) 1 t rfl, leaves_live (dats m 0 c) 2 t rfl, leaves_live (dats m 0 c) 3 t rfl, leaves_live (dats m 0 c) 4 t rfl, leaves_live (dats m 0 c) 5 t rfl, leaves_live (dats m 0 c) 6 t rfl, leaves_live (dats m 0 c) 7 t rfl, leaves_live (dats m 0 c) 8 t rfl, leaves_live (dats m 0 c) 9 t rfl, leaves_live (dats m 0 c) 10 t rfl, leaves_live (dats m 0 c) 11 t rfl, leaves_live (dats m 0 c) 12 t rfl, leaves_live (dats m 0 c) 13 t rfl, leaves_live (dats m 0 c) 14 t rfl, leaves_live (dats m 0 c) 15 t rfl]
  rw [show (dats m 0 c).Φ t.succ = iprop((∃ d, ⌜RowsDone (losses m c) (t.val + 1) d⌝ ∗ owns (c : Thread nD τ) scratch fullShare d) ∗ (∃ r, prngReg c r)) from rfl,
    show (dats m 0 c).Φ t.castSucc = iprop((∃ d, ⌜RowsDone (losses m c) t.val d⌝ ∗ owns (c : Thread nD τ) scratch fullShare d) ∗ (∃ r, prngReg c r)) from rfl,
    show (dats m 0 c).owesAt () t.succ = (dats m 0 c).owesAt () t.castSucc from rfl]
  iintro ⟨⟨⟨%ds, %hds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (body c (grid0.coords t) _ _ _ _ _ _ _ _ _ _ _ _ _ _ _ _ _ _ _ _ _ _ _ _ _ _ _ _ _ _ _ _ _ _ _ _ (xs m c t) (ys m c t) t.val (coord_eq t) (last_iff t) (losses m c) ds hds (losses_row m c t) _ Set.univ _)
  isplitl [H0 H1 H2 H3 H4 H5 H6 H7 H8 H9 H10 H11 H12 H13 H14 H15]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  isplitl [H16]; · iexact H16
  isplitl [HS]; · iexact HS
  iintro ⟨⟨H0, H1, H2, H3, H4, H5, H6, H7, H8, H9, H10, H11, H12, H13, H14, H15⟩, H16, ⟨%d', %hd', HS⟩⟩
  isplitl [HS Hg]
  · isplitl [HS]
    · iexists d'; isplitr; · ipureintro; exact hd'
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  by_cases hc : k0_cond1 (grid0.coords t) = 1#1
  · rw [if_pos hc]; iapply (leaves_last m c t hc); iexact H16
  · rw [if_neg hc]; iapply (leaves_mid m c t hc d16); iexact H16

theorem obligation (c : Dev nD) : BodyObligation (dats (F := F) m 0 c) (defs₀ (F := F)) Variants.none () Set.univ := fun t => by
  rw [bigSep_W0, bigSep_W0, row_eq]
  exact triple_restated (point m c t) rfl .rfl fun _ => .rfl

/-- The scratch as the launch finds it has no row filled. -/
theorem enter (c : Dev nD) : (Pipeline.ΦA spec0 c : sProp 𝕄) ⊢ (dats m 0 c).Φ 0 := by
  rw [rest_eq]
  show _ ⊢ iprop((∃ d, ⌜RowsDone (losses m c) 0 d⌝ ∗ owns (c : Thread nD τ) scratch fullShare d) ∗ (∃ r, prngReg c r))
  iintro ⟨⟨%d, H⟩, Hg⟩
  isplitl [H]
  · iexists d; isplitr; · ipureintro; exact fun y h => absurd h (Nat.not_lt_zero _)
    iexact H
  iexact Hg

/-- What the scratch holds is forgotten after the launch. -/
theorem leave (c : Dev nD) : (dats m 0 c).Φ (Fin.last cfg0.N) ⊢ (Pipeline.ΦA spec0 c : sProp 𝕄) := by
  rw [rest_eq]
  show iprop((∃ d, ⌜RowsDone (losses m c) _ d⌝ ∗ owns (c : Thread nD τ) scratch fullShare d) ∗ (∃ r, prngReg c r)) ⊢ _
  iintro ⟨⟨%d, -, H⟩, Hg⟩
  isplitl [H]; · iexists d; iexact H
  iexact Hg

set_option backward.isDefEq.respectTransparency.types false in
/-- The launch's run: its arrays as the launch's data say, and every counter at zero. -/
theorem launch_run :
    θ_run defs (onTc (τ := τ) (main (F := F))) ⟨m, fun _ => 0, ρ⟩ (fun r =>
      Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 (defs₀ (F := F)) Variants.none m ρ main
    (hbody := fun c => (obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := enter m) (hout := leave m)
    (Q' := fun r => Pipeline.FramePost cfgs (dats m) 0 (Pipeline.afterTail₀ cfgs (dats m) 0 (V0 m) [hostOps1]) r ∧ r.2.sem = fun _ => 0)
    (hQ' := fun _ h => h)

/-- The one write-back, at the last point, writes the result: its block is the whole array. -/
theorem flushed_eq (c : Dev nD) (t : Fin cfg0.N) (hf : (cfg0.win 16).flush t = true) :
    (dats m 0 c).flushed 16 t = ((cfg0.win 16).blk t).view.read (Elt F) (result m c) := rfl

/-- The result array ends holding the result. -/
theorem final_result (c : Dev nD) : (dats m 0 c).arrAt 16 cfg0.N = result m c :=
  (dats m 0 c).arrAt_eq_of_cover 16 (result m c) (flushed_eq m c) fun i =>
    ⟨t0_3, (flush0_16 t0_3).mpr rfl, by
      show i ∈ ((View.whole main_v2).slice (win0_16.rect t0_3)).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1; omega
      | ⟨1, _⟩ => show 0 * 1 ≤ (i 1 : Nat) ∧ (i 1 : Nat) < 0 * 1 + 1; omega⟩

/-- The program's result: the launch's one number. -/
theorem final_value (c : Dev nD) :
    Pipeline.afterTail₀ cfgs (dats m) 0 (V0 m) [hostOps1] c main_v3 = (fun _ => select (losses m c) : Vec F S_ .f32) := by
  unfold Pipeline.afterTail₀
  simp only [hostOps1, List.flatten_cons, List.flatten_nil, List.append_nil, StableHlo.after_cons, StableHlo.after_nil]
  rw [StableHlo.reshape_result]
  have h := (dats m 0 c).withArrays_arrAt sharedIn0 (V0 m c) (A_eq m c) 16
  rw [final_result] at h
  funext i
  exact congrFun (congrArg (fun f => shapeCast S_ f shapeCasts_S1x1_S_) h) i

/-- The run, read: the result, the arguments as they were, every counter at zero. -/
theorem run :
    θ_run defs (onTc (τ := τ) (main (F := F))) ⟨m, fun _ => 0, ρ⟩ (fun r => (∀ c : Dev nD,
      r.2.mem ((c.tc : Thread nD τ).loc main_v3) = (fun _ => select (losses m c) : Vec F S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c =>
    ⟨((h.1 c).2 main_v3 (Pipeline.mem_restRefs_of main_v3 (by decide) (by decide))).trans (final_value m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩, h.2⟩)
    (launch_run m ρ)

end Cert.Ohem

end
-- ==== Proof.Reference.Frame.lean ====
/- The frame of the reference: it runs to its end and leaves its two arguments as they were. It has no counters at all. -/
module

public import proofs.«01_k».proof.Proof.Gen.ReferenceIdeal.Run
public import Idealize.ShloMosaic.Lib.Quiescent

@[expose] public section

noncomputable section

namespace Cert.Ohem.Reference

open Cert.ReferenceIdeal Cert.ReferenceIdeal.Gen Idealize.ShloMosaic Idealize.ShloMosaic.TcCoe Idealize.SL.Sem

variable {F : FTy → Type} [FloatOps F]

/-- The frame at any floats. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h c).2, sem_eq_zero_of_no_sems (by decide) _⟩) (Cert.ReferenceIdeal.Value.run m ρ)

end Cert.Ohem.Reference

end
-- ==== Proof.Ideal.Totals.lean ====
/- The three whole-array reductions of the selection, at the reals with infinities: a sum of a 32 by 512 array, its greatest
   entry, and the number of its entries that satisfy a test. -/
module

public import proofs.«01_k».proof.Proof.Ideal.Body
public import Idealize.ShloMosaic.PureOps.Ideal.Laws
public import Idealize.ShloMosaic.PureOps.Reduce
public import Idealize.ShloMosaic.Lib.IndicatorCount
public import Idealize.ShloMosaic.Lib.ValueIdx

@[expose] public section

noncomputable section

namespace Cert.Ohem

open Cert.KernelIdeal Cert.KernelIdeal.Gen
open Idealize.ShloMosaic Idealize.ShloMosaic.IndicatorCount

/-- The array seen with a leading unit axis lists the same entries. -/
abbrev flat3 : S1x32x512.Idx ≃ S32x512.Idx := Shape.reshapeEquiv shapeCasts_S32x512_S1x32x512

/-- The kernel's sum of every entry. -/
def total (x : FVec Ideal S32x512 .f32) : Ideal .f32 :=
  extractAt ![0, 0, 0] (shapeCast S1x1x1 (multiReduction .add [1, 2] S1 (shapeCast S1x32x512 x shapeCasts_S32x512_S1x32x512)
    0x00000000#32 reduces_S1x32x512_S1 (.inl rfl) rfl) shapeCasts_S1_S1x1x1) inpos_S1x1x1_p0_0_0

/-- The kernel's greatest entry. -/
def greatest (x : FVec Ideal S32x512 .f32) : Ideal .f32 :=
  extractAt ![0, 0, 0] (shapeCast S1x1x1 (multiReduction .maximumf [1, 2] S1 (shapeCast S1x32x512 x shapeCasts_S32x512_S1x32x512)
    0xFF800000#32 reduces_S1x32x512_S1 (.inl rfl) rfl) shapeCasts_S1_S1x1x1) inpos_S1x1x1_p0_0_0

/-- The kernel's count of the entries that hold. -/
def tally (p : IVec S32x512 1) : BitVec 32 :=
  extractAt ![0, 0, 0] (shapeCast S1x1x1 (multiReductionI .add [1, 2] S1 (shapeCast S1x32x512 (extui 32 p natLt_1_32)
    shapeCasts_S32x512_S1x32x512) 0#32 reduces_S1x32x512_S1 rfl) shapeCasts_S1_S1x1x1) inpos_S1x1x1_p0_0_0

theorem total_eq (x : FVec Ideal S32x512 .f32) : total x = ∑ i, x i := by
  unfold total extractAt shapeCast
  refine (Ideal.multiReduction_add_total _ _ _ (by decide) _ _ _).trans ?_
  exact flat3.sum_comp x

/-- Every place of the unit result collects the whole array. -/
theorem drop_all (j : S1.Idx) : (Finset.univ.filter fun i => Shape.Reduces.drop reduces_S1x32x512_S1 i = j) = Finset.univ := by
  refine Finset.filter_true_of_mem fun i _ => funext fun a => Fin.ext ?_
  have h : S1.size a = 1 := by revert a; decide
  have h1 := (Shape.Reduces.drop reduces_S1x32x512_S1 i a).isLt
  have h2 := (j a).isLt
  omega

theorem greatest_eq (x : FVec Ideal S32x512 .f32) (T : EReal) (hle : ∀ i, x i ≤ T) (hat : ∃ i, x i = T) : greatest x = T := by
  unfold greatest extractAt shapeCast
  refine (multiReduction_maximumf_eq_fold (F := Ideal) _ _ _ _ _ _).trans ?_
  rw [drop_all]
  change Finset.fold max _ _ _ = T
  apply le_antisymm
  · rw [Finset.fold_max_le]
    exact ⟨by simp [Ideal.ofBits, Ideal.ieee], fun i _ => hle _⟩
  · obtain ⟨i, hi⟩ := hat
    rw [Finset.le_fold_max]
    exact .inr ⟨flat3.symm i, Finset.mem_univ _, by simp [flat3, ← hi]⟩

theorem tally_eq (p : IVec S32x512 1) : tally p = BitVec.ofNat 32 (Finset.univ.filter fun i => p i = 1#1).card := by
  unfold tally extractAt shapeCast
  refine (multiReductionI_eq_fold _ _ _ _ _ _).trans ?_
  rw [drop_all]
  change Finset.fold IntOp.addi 0#32 (fun k => (p (flat3 k)).setWidth 32) Finset.univ = _
  rw [fold_addi_setWidth_eq_card]
  congr 1
  refine Finset.card_bij (fun k _ => flat3 k) (by simp) (fun _ _ _ _ h => flat3.injective h) fun i hi => ⟨flat3.symm i, ?_, by simp⟩
  simpa using hi

end Cert.Ohem
-- ==== Proof.Maths.TopSum.lean ====
/- The sum of the largest numbers, from their ranks.

   `rank r i` counts the numbers below `r i`. Let `σ` list the numbers from the largest down. The largest key that at least
   `K` numbers reach is the rank of the `K`-th number `T`, and the sum of the first `K` numbers is the sum of the numbers
   above `T` plus, for the rest of the `K`, that many times `T`. -/
module

public import Idealize.ShloMosaic.PureOps.Ideal.Laws

@[expose] public section

namespace Cert.Ohem

variable {ι : Type} [Fintype ι]

/-- How many numbers lie below the one at `i`. -/
noncomputable def rank (r : ι → ℝ) (i : ι) : ℕ := (Finset.univ.filter fun j => r j < r i).card

theorem rank_mono (r : ι → ℝ) {i j : ι} (h : r i ≤ r j) : rank r i ≤ rank r j :=
  Finset.card_le_card fun k hk => by
    simp only [Finset.mem_filter, Finset.mem_univ, true_and] at hk ⊢
    exact hk.trans_le h

theorem rank_lt (r : ι → ℝ) {i j : ι} (h : r i < r j) : rank r i < rank r j := by
  refine Finset.card_lt_card ⟨fun k hk => ?_, fun hs => ?_⟩
  · simp only [Finset.mem_filter, Finset.mem_univ, true_and] at hk ⊢
    exact hk.trans h
  · have := hs (by simpa using h : i ∈ Finset.univ.filter fun k => r k < r j)
    simp at this

theorem rank_lt_iff (r : ι → ℝ) (i j : ι) : rank r i < rank r j ↔ r i < r j :=
  ⟨fun h => lt_of_not_ge fun hn => absurd (rank_mono r hn) (not_le.mpr h), rank_lt r⟩

theorem rank_eq_iff (r : ι → ℝ) (i j : ι) : rank r i = rank r j ↔ r i = r j := by
  constructor
  · intro h
    exact le_antisymm (le_of_not_gt fun hn => absurd (rank_lt r hn) (by omega)) (le_of_not_gt fun hn => absurd (rank_lt r hn) (by omega))
  · intro h
    exact le_antisymm (rank_mono r h.le) (rank_mono r h.ge)

theorem rank_lt_card (r : ι → ℝ) (i : ι) : rank r i < Fintype.card ι := by
  refine Finset.card_lt_univ_of_notMem (x := i) ?_
  simp

variable {N : ℕ} (r : ι → ℝ) (σ : Fin N → ι) (hσ : Function.Bijective σ) (hr : Antitone (r ∘ σ))

include hσ hr in
/-- At least `K` ranks reach `t` exactly when the rank of the `K`-th number, listed from the largest down, does. -/
theorem reach_iff {K : ℕ} (k : Fin N) (hk : k.val + 1 = K) (t : ℕ) :
    K ≤ (Finset.univ.filter fun i => t ≤ rank r i).card ↔ t ≤ rank r (σ k) := by
  constructor
  · intro h
    by_contra hn
    have hsub : (Finset.univ.filter fun i => t ≤ rank r i) ⊆ (Finset.univ.filter fun j : Fin N => j < k).map ⟨σ, hσ.1⟩ := by
      intro i hi
      obtain ⟨j, rfl⟩ := hσ.2 i
      simp only [Finset.mem_filter, Finset.mem_univ, true_and] at hi
      refine Finset.mem_map.mpr ⟨j, ?_, rfl⟩
      simp only [Finset.mem_filter, Finset.mem_univ, true_and]
      by_contra hj
      exact hn (hi.trans (rank_mono r (hr (not_lt.mp hj))))
    have hc := Finset.card_le_card hsub
    rw [Finset.card_map] at hc
    have : (Finset.univ.filter fun j : Fin N => j < k).card = k.val := by
      rw [show (Finset.univ.filter fun j : Fin N => j < k) = Finset.Iio k from by ext; simp, Fin.card_Iio]
    omega
  · intro h
    have hsub : (Finset.univ.filter fun j : Fin N => j ≤ k).map ⟨σ, hσ.1⟩ ⊆ (Finset.univ.filter fun i => t ≤ rank r i) := by
      intro i hi
      obtain ⟨j, hj, rfl⟩ := Finset.mem_map.mp hi
      simp only [Finset.mem_filter, Finset.mem_univ, true_and] at hj ⊢
      exact h.trans (rank_mono r (hr hj))
    have hc := Finset.card_le_card hsub
    rw [Finset.card_map] at hc
    have : (Finset.univ.filter fun j : Fin N => j ≤ k).card = k.val + 1 := by
      rw [show (Finset.univ.filter fun j : Fin N => j ≤ k) = Finset.Iic k from by ext; simp, Fin.card_Iic]
    omega

include hσ hr in
/-- The sum of the first `K` numbers, listed from the largest down. -/
theorem top_sum {K : ℕ} (k : Fin N) (hk : k.val + 1 = K) :
    ∑ j : Fin N, (if j ≤ k then r (σ j) else 0)
      = (∑ i, if r (σ k) < r i then r i else 0)
        + ((K : ℝ) - ((Finset.univ.filter fun i => r (σ k) < r i).card : ℝ)) * r (σ k) := by
  have h1 : ∀ j : Fin N, (if j ≤ k then r (σ j) else 0)
      = (if r (σ k) < r (σ j) then r (σ j) - r (σ k) else 0) + (if j ≤ k then r (σ k) else 0) := by
    intro j
    rcases le_total j k with h | h
    · have := hr h
      simp only [Function.comp] at this
      by_cases hlt : r (σ k) < r (σ j)
      · simp [h, hlt]
      · simp [h, hlt, le_antisymm (not_lt.mp hlt) this]
    · have := hr h
      simp only [Function.comp] at this
      rcases h.eq_or_lt with rfl | hl
      · simp
      · simp [not_le.mpr hl, not_lt.mpr this]
  have h2 : ∑ j : Fin N, (if r (σ k) < r (σ j) then r (σ j) - r (σ k) else 0)
      = ∑ i, (if r (σ k) < r i then r i - r (σ k) else 0) :=
    hσ.sum_comp (fun i => if r (σ k) < r i then r i - r (σ k) else 0)
  have h3 : ∑ j : Fin N, (if j ≤ k then r (σ k) else 0) = K * r (σ k) := by
    rw [← Finset.sum_filter, Finset.sum_const, nsmul_eq_mul,
      show (Finset.univ.filter fun j : Fin N => j ≤ k) = Finset.Iic k from by ext; simp, Fin.card_Iic, hk]
  have h4 : ∑ i, (if r (σ k) < r i then r i - r (σ k) else 0)
      = (∑ i, if r (σ k) < r i then r i else 0) - ((Finset.univ.filter fun i => r (σ k) < r i).card : ℝ) * r (σ k) := by
    rw [← Finset.sum_filter, ← Finset.sum_filter, Finset.sum_sub_distrib, Finset.sum_const, nsmul_eq_mul]
  rw [Finset.sum_congr rfl fun j _ => h1 j, Finset.sum_add_distrib, h2, h3, h4]
  ring

end Cert.Ohem
-- ==== Proof.Ideal.Ranks.lean ====
/- The rank loop at the reals: when every loss is a real number, the kernel's rank of a loss is the number of losses below it. -/
module

public import proofs.«01_k».proof.Proof.Ideal.Totals
public import proofs.«01_k».proof.Proof.Maths.TopSum
public import Idealize.ShloMosaic.Lib.ValueIdx
public import Idealize.ShloMosaic.Lib.WordCmp

@[expose] public section

noncomputable section

namespace Cert.Ohem

open Cert.KernelIdeal Cert.KernelIdeal.Gen
open Idealize.ShloMosaic Idealize.ShloMosaic.ValueIdx

/-- A property kept by every trip of a loop holds at its end. -/
theorem fold_keeps {n : ℕ} {σ : Type} (g : Fin n → σ → σ) (init : σ) (I : ℕ → σ → Prop) (h0 : I 0 init)
    (hs : ∀ (k : Fin n) a, I k.val a → I (k.val + 1) (g k a)) : I n (Scf.fold g init) := by
  rw [Scf.fold_eq]
  induction n with
  | zero => simpa using h0
  | succ n ih =>
    rw [List.finRange_succ_last, List.foldl_append, List.foldl_map]
    exact hs (Fin.last n) _ (ih (fun k => g k.castSucc) fun k a => hs k.castSucc a)

/-- An entry's place in the listing by rows. -/
def place (i : S32x512.Idx) : ℕ := (i 0).val * 512 + (i 1).val

theorem place_lt (i : S32x512.Idx) : place i < 16384 := by
  have h0 : (i 0).val < 32 := (i 0).isLt
  have h1 : (i 1).val < 512 := (i 1).isLt
  unfold place; omega

/-- The entry at a place. -/
def entry (k : ℕ) (h : k < 16384) : S32x512.Idx := ix2 (n0 := 32) (n1 := 512) ⟨k / 512, by omega⟩ ⟨k % 512, by omega⟩

theorem place_eq_iff (i : S32x512.Idx) (k : ℕ) (h : k < 16384) : place i = k ↔ i = entry k h := by
  have h1 : (i 1).val < 512 := (i 1).isLt
  constructor
  · rintro rfl
    funext a
    fin_cases a
    · exact Fin.ext (by change (i 0).val = place i / 512; unfold place; omega)
    · exact Fin.ext (by change (i 1).val = place i % 512; unfold place; omega)
  · rintro rfl
    change k / 512 * 512 + k % 512 = k
    omega

/-- The kernel's own place of an entry, a word. -/
def placeWord : IVec S32x512 32 :=
  addi (muli (iota .tc S32x512 32 [0] iota_S32x512_d0_w32) (broadcast S32x512 512#32)) (iota .tc S32x512 32 [1] iota_S32x512_d1_w32)

theorem placeWord_eq (i : S32x512.Idx) : placeWord i = BitVec.ofNat 32 (place i) := by
  change BitVec.ofNat 32 (0 * 32 + (i 0).val) * BitVec.ofNat 32 512 + BitVec.ofNat 32 (0 * 512 + (i 1).val) = _
  unfold place
  simp only [Nat.zero_mul, Nat.zero_add, place, BitVec.ofNat_add, BitVec.ofNat_mul]

theorem trips1 : k0_t1_loop.trips = 16384 := rfl

/-- The entry that trip `k` picks. -/
abbrev picked (k : Fin k0_t1_loop.trips) : S32x512.Idx := entry k.val (trips1 ▸ k.isLt)

/-- The test of a trip holds at the entry it picks alone. -/
theorem pick_iff (k : Fin k0_t1_loop.trips) (i : S32x512.Idx) :
    IntOp.cmpi .eq (placeWord i) (Scf.iv 0#32 1#32 k) = 1#1 ↔ i = picked k := by
  have hk : k.val < 16384 := trips1 ▸ k.isLt
  have hp := place_lt i
  rw [placeWord_eq, ← place_eq_iff i k.val hk, Scf.iv, BitVec.zero_add, BitVec.mul_one,
    WordCmp.cmpi_eq_ofNat_eq_one_iff (by omega) (by omega)]

/-- A trip adds one at each entry above the entry it picks. -/
theorem rankStep_apply (v : Vec Ideal S32x512 .f32) (k : Fin k0_t1_loop.trips) (acc : IVec S32x512 32) (i : S32x512.Idx) :
    rankStep v k acc i = acc i + (if v (picked k) < v i then 1#32 else 0#32) := by
  have hpick : total (Idealize.ShloMosaic.select (cmpi .eq placeWord (broadcast S32x512 (Scf.iv 0#32 1#32 k))) v
      (broadcast S32x512 (Scalar.ofBits .f32 0x00000000#32))) = v (picked k) := by
    rw [total_eq, Finset.sum_eq_single (picked k)]
    · exact if_pos ((pick_iff k _).mpr rfl)
    · intro j _ hj
      exact (if_neg fun h => hj ((pick_iff k j).mp h)).trans Ideal.ofBits_zero_f32
    · simp
  change acc i + (Ideal.cmp .olt (total (Idealize.ShloMosaic.select (cmpi .eq placeWord (broadcast S32x512 (Scf.iv 0#32 1#32 k))) v
    (broadcast S32x512 (Scalar.ofBits .f32 0x00000000#32)))) (v i)).setWidth 32 = _
  rw [hpick]
  by_cases h : v (picked k) < v i <;> simp [Ideal.cmp, h]

/-- The losses below the one at `i` among those placed before `n`. -/
def below (r : S32x512.Idx → ℝ) (n : ℕ) (i : S32x512.Idx) : ℕ := (Finset.univ.filter fun j => place j < n ∧ r j < r i).card

theorem below_zero (r : S32x512.Idx → ℝ) (i : S32x512.Idx) : below r 0 i = 0 := by simp [below]

theorem below_succ (r : S32x512.Idx → ℝ) (k : ℕ) (hk : k < 16384) (i : S32x512.Idx) :
    below r (k + 1) i = below r k i + (if r (entry k hk) < r i then 1 else 0) := by
  have hset : (Finset.univ.filter fun j => place j < k + 1 ∧ r j < r i)
      = (Finset.univ.filter fun j => place j < k ∧ r j < r i) ∪ (Finset.univ.filter fun j => j = entry k hk ∧ r j < r i) := by
    ext j
    have := place_eq_iff j k hk
    simp only [Finset.mem_filter, Finset.mem_univ, true_and, Finset.mem_union, ← this]
    constructor
    · rintro ⟨h1, h2⟩; rcases Nat.lt_succ_iff_lt_or_eq.mp h1 with h | h
      · exact .inl ⟨h, h2⟩
      · exact .inr ⟨h, h2⟩
    · rintro (⟨h1, h2⟩ | ⟨h1, h2⟩)
      · exact ⟨by omega, h2⟩
      · exact ⟨by omega, h2⟩
  have hdis : Disjoint (Finset.univ.filter fun j => place j < k ∧ r j < r i) (Finset.univ.filter fun j => j = entry k hk ∧ r j < r i) := by
    rw [Finset.disjoint_filter]
    rintro j _ ⟨h1, _⟩ ⟨h2, _⟩
    have := (place_eq_iff j k hk).mpr h2
    omega
  unfold below
  rw [hset, Finset.card_union_of_disjoint hdis]
  congr 1
  by_cases h : r (entry k hk) < r i
  · rw [if_pos h, Finset.card_eq_one]
    exact ⟨entry k hk, by ext j; simp only [Finset.mem_filter, Finset.mem_univ, true_and, Finset.mem_singleton]; exact ⟨fun h => h.1, fun e => ⟨e, e ▸ h⟩⟩⟩
  · rw [if_neg h, Finset.card_eq_zero, Finset.filter_eq_empty_iff]
    rintro j _ ⟨rfl, h2⟩
    exact h h2

/-- The kernel's rank of a loss is the number of losses below it. -/
theorem ranks_eq (v : Vec Ideal S32x512 .f32) (r : S32x512.Idx → ℝ) (hv : ∀ i, v i = (r i : EReal)) (i : S32x512.Idx) :
    ranks v i = BitVec.ofNat 32 (rank r i) := by
  have h := fold_keeps (rankStep v) (k0_pay3) (fun n acc => ∀ i, acc i = BitVec.ofNat 32 (below r n i))
    (fun i => by rw [below_zero]; rfl) (fun k acc ih i => by
      have hk : k.val < 16384 := trips1 ▸ k.isLt
      rw [rankStep_apply, ih i, below_succ r k.val hk i, hv, hv, BitVec.ofNat_add]
      congr 1
      by_cases hlt : r (entry k.val hk) < r i
      · rw [if_pos (EReal.coe_lt_coe_iff.mpr hlt), if_pos hlt]
      · rw [if_neg (mt EReal.coe_lt_coe_iff.mp hlt), if_neg hlt])
  refine (h i).trans ?_
  rw [trips1]
  unfold below rank
  congr 2
  ext j
  simp [place_lt]

end Cert.Ohem
-- ==== Proof.Ideal.Blocks.lean ====
/- Where the kernel's losses come from: row `r` and column `j` of the losses is the loss of sample `512 r + j`. -/
module

public import proofs.«01_k».proof.Proof.Ideal.Frame
public import proofs.«01_k».proof.Proof.Ideal.Ranks
public import Idealize.ShloMosaic.Lib.Pipeline.ValueKit.Point
public import Idealize.ShloMosaic.Lib.ValueLayout

@[expose] public section

noncomputable section

namespace Cert.Ohem

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ)

/-- The launch finds the logits turned, class by sample. -/
theorem V_logits (c : Dev nD) : V m c main_v0
    = transpose S1000x16384 [1, 0] (m ((c : Thread nD τ).loc main_arg0) : Vec F S16384x1000 .f32) transposes_S16384x1000_S1000x16384_1_0 := by
  change StableHlo.after [hostOps0].flatten (fun b => m (c, b)) (Proc.devRef .tc main_v0) = _
  simp only [List.flatten_cons, List.flatten_nil, List.append_nil, List.cons_append, List.nil_append]
  after_results
  all_goals rfl

/-- The launch finds the labels in 32 rows of 512. -/
theorem V_labels (c : Dev nD) : V m c main_v1
    = shapeCast S32x1x512 (m ((c : Thread nD τ).loc main_arg1) : Vec F S16384 .i32) shapeCasts_S16384_S32x1x512 := by
  change StableHlo.after [hostOps0].flatten (fun b => m (c, b)) (Proc.devRef .tc main_v1) = _
  simp only [List.flatten_cons, List.flatten_nil, List.append_nil, List.cons_append, List.nil_append]
  after_results
  all_goals rfl

/-- Stream `s` reads at point `t` the logit block `4 s + t`. -/
theorem logit_windows : ∀ t : Fin cfg0.N, win0_0.index t = ![0, t.val] ∧ win0_1.index t = ![0, 4 + t.val] ∧ win0_2.index t = ![0, 8 + t.val]
    ∧ win0_3.index t = ![0, 12 + t.val] ∧ win0_4.index t = ![0, 16 + t.val] ∧ win0_5.index t = ![0, 20 + t.val]
    ∧ win0_6.index t = ![0, 24 + t.val] ∧ win0_7.index t = ![0, 28 + t.val] := by decide +kernel

/-- Stream `s` reads at point `t` the label row `4 s + t`. -/
theorem label_windows : ∀ t : Fin cfg0.N, win0_8.index t = ![t.val, 0, 0] ∧ win0_9.index t = ![4 + t.val, 0, 0]
    ∧ win0_10.index t = ![8 + t.val, 0, 0] ∧ win0_11.index t = ![12 + t.val, 0, 0] ∧ win0_12.index t = ![16 + t.val, 0, 0]
    ∧ win0_13.index t = ![20 + t.val, 0, 0] ∧ win0_14.index t = ![24 + t.val, 0, 0] ∧ win0_15.index t = ![28 + t.val, 0, 0] := by decide +kernel

theorem row_lt (s : Fin 8) (t : Fin cfg0.N) : 4 * s.val + t.val < 32 := by
  have ht : t.val < 4 := Nat.lt_of_lt_of_eq t.isLt N_0
  omega

/-- A logit of a block. -/
theorem xs_apply (c : Dev nD) (t : Fin cfg0.N) (s : Fin 8) (k : Fin 1000) (j : Fin 512) :
    xs m c t s (ValueIdx.ix2 k j) = (m ((c : Thread nD τ).loc main_arg0) : Vec F S16384x1000 .f32)
      (ValueIdx.ix2 (n0 := 16384) (n1 := 1000) ⟨(4 * s.val + t.val) * 512 + j.val, by have := row_lt s t; omega⟩ k) := by
  have hv := V_logits m c
  obtain ⟨h0, h1, h2, h3, h4, h5, h6, h7⟩ := logit_windows t
  have hb := row_lt s t
  trans (V m c main_v0 : Vec F S1000x16384 .f32) (ValueIdx.ix2 (n0 := 1000) (n1 := 16384) k ⟨(4 * s.val + t.val) * 512 + j.val, by omega⟩)
  · fin_cases s
    all_goals
      refine congrArg (V m c main_v0) (funext fun a => ?_)
      match a with
      | ⟨0, _⟩ => exact Fin.ext (by blk_simp [h0, h1, h2, h3, h4, h5, h6, h7])
      | ⟨1, _⟩ =>
        refine Fin.ext ?_
        blk_simp [h0, h1, h2, h3, h4, h5, h6, h7]
        first | rfl | exact congrArg (· * 512 + j.val) (Nat.zero_add t.val).symm
  · rw [hv]
    exact ValueIdx.transpose_ix2_apply _ _ _ _

/-- A label of a row. -/
theorem ys_apply (c : Dev nD) (t : Fin cfg0.N) (s : Fin 8) (j : Fin 512) :
    ys m c t s (ValueIdx.ix3 (0 : Fin 1) (0 : Fin 1) j) = (m ((c : Thread nD τ).loc main_arg1) : Vec F S16384 .i32)
      (ValueIdx.ix1 (n := 16384) ⟨(4 * s.val + t.val) * 512 + j.val, by have := row_lt s t; omega⟩) := by
  have hv := V_labels m c
  obtain ⟨h0, h1, h2, h3, h4, h5, h6, h7⟩ := label_windows t
  have hb := row_lt s t
  trans (V m c main_v1 : Vec F S32x1x512 .i32) (ValueIdx.ix3 (n0 := 32) (n1 := 1) (n2 := 512) ⟨4 * s.val + t.val, hb⟩ 0 j)
  · fin_cases s
    all_goals
      refine congrArg (V m c main_v1) (funext fun a => ?_)
      match a with
      | ⟨0, _⟩ =>
        refine Fin.ext ?_
        blk_simp [h0, h1, h2, h3, h4, h5, h6, h7]
        first | rfl | exact (Nat.zero_add t.val).symm
      | ⟨1, _⟩ => exact Fin.ext (by blk_simp [h0, h1, h2, h3, h4, h5, h6, h7])
      | ⟨2, _⟩ => exact Fin.ext (by blk_simp [h0, h1, h2, h3, h4, h5, h6, h7])
  · rw [hv]
    refine shapeCast_apply (s := S16384) (t := S32x1x512) _ _ _ _ ?_
    rw [Shape.rowMajor_val_three, Shape.rowMajor_val_one]
    change (4 * s.val + t.val) * 512 + j.val = ((4 * s.val + t.val) * 1 + 0) * 512 + j.val
    omega

/-- The sample of a row and column of the losses. -/
abbrev sample (y : S32x512.Idx) : Fin 16384 := ⟨place y, place_lt y⟩

theorem losses_apply (c : Dev nD) (y : S32x512.Idx) :
    ∃ (x : Vec F S1000x512 .f32) (z : Vec F S1x1x512 .i32), losses m c y = lossRow x z (ValueIdx.ix2 (0 : Fin 1) (y 1 : Fin 512))
      ∧ (∀ k, x (ValueIdx.ix2 k (y 1 : Fin 512)) = (m ((c : Thread nD τ).loc main_arg0) : Vec F S16384x1000 .f32) (ValueIdx.ix2 (sample y) k))
      ∧ z (ValueIdx.ix3 (0 : Fin 1) (0 : Fin 1) (y 1 : Fin 512)) = (m ((c : Thread nD τ).loc main_arg1) : Vec F S16384 .i32) (ValueIdx.ix1 (sample y)) := by
  have hrow : 4 * (streamOf y).val + (pointOf y).val = (y 0).val := by
    change 4 * ((y 0).val / 4) + (y 0).val % 4 = (y 0).val
    omega
  have hs : (⟨(4 * (streamOf y).val + (pointOf y).val) * 512 + (y 1).val, by rw [hrow]; exact place_lt y⟩ : Fin 16384) = sample y :=
    Fin.ext (congrArg (· * 512 + (y 1).val) hrow)
  refine ⟨xs m c (pointOf y) (streamOf y), ys m c (pointOf y) (streamOf y), ?_, fun k => ?_, ?_⟩
  · refine congrArg (lossRow (xs m c (pointOf y) (streamOf y)) (ys m c (pointOf y) (streamOf y))) (funext fun a => ?_)
    match a with
    | ⟨0, _⟩ => rfl
    | ⟨1, _⟩ => rfl
  · rw [← hs]; exact xs_apply m c (pointOf y) (streamOf y) k (y 1)
  · rw [← hs]; exact ys_apply m c (pointOf y) (streamOf y) (y 1)

end Cert.Ohem
-- ==== Proof.Maths.Coe.lean ====
/- Real numbers among the reals with infinities: sums, and a number or zero by a test. -/
module

public import Idealize.ShloMosaic.PureOps.Ideal.Laws

@[expose] public section

namespace Cert.Ohem

/-- A sum of real numbers is a real number. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_if (p : Prop) [Decidable p] (x : ℝ) : ((if p then x else 0 : ℝ) : EReal) = if p then (x : EReal) else 0 := by
  split <;> simp

end Cert.Ohem
-- ==== Proof.Maths.Loss.lean ====
/- One sample's loss as a real number: the greatest logit less the label's, plus the logarithm of the sum of the
   exponentials of the logits less the greatest. It is never negative. -/
module

public import proofs.«01_k».proof.Proof.Maths.Coe
public import Mathlib.Analysis.SpecialFunctions.Log.Basic

@[expose] public section

noncomputable section

namespace Cert.Ohem

variable (ξ : Fin 1000 → ℝ) (l : Fin 1000)

/-- The greatest logit. -/
def top : ℝ := Finset.univ.sup' ⟨0, Finset.mem_univ _⟩ ξ

theorem le_top (k : Fin 1000) : ξ k ≤ top ξ := Finset.le_sup' ξ (Finset.mem_univ k)

theorem top_attained : ∃ k, ξ k = top ξ := by
  obtain ⟨k, _, hk⟩ := Finset.exists_mem_eq_sup' (⟨0, Finset.mem_univ _⟩ : (Finset.univ : Finset (Fin 1000)).Nonempty) ξ
  exact ⟨k, hk.symm⟩

/-- The greatest logit, taken among the reals with infinities from minus infinity. -/
theorem fold_top : (Finset.univ : Finset (Fin 1000)).fold max (⊥ : EReal) (fun k => (ξ k : EReal)) = (top ξ : EReal) := by
  apply le_antisymm
  · rw [Finset.fold_max_le]
    exact ⟨bot_le, fun k _ => EReal.coe_le_coe_iff.mpr (le_top ξ k)⟩
  · obtain ⟨k, hk⟩ := top_attained ξ
    rw [Finset.le_fold_max]
    exact .inr ⟨k, Finset.mem_univ _, by rw [hk]⟩

/-- The sum of the exponentials. -/
def mass : ℝ := ∑ k, Real.exp (ξ k - top ξ)

theorem one_le_mass : 1 ≤ mass ξ := by
  obtain ⟨k, hk⟩ := top_attained ξ
  calc (1 : ℝ) = Real.exp (ξ k - top ξ) := by rw [hk, sub_self, Real.exp_zero]
    _ ≤ mass ξ := Finset.single_le_sum (f := fun k => Real.exp (ξ k - top ξ)) (fun j _ => (Real.exp_pos _).le) (Finset.mem_univ k)

/-- The loss of a sample with logits `ξ` and label `l`. -/
def lossOf : ℝ := (top ξ - ξ l) + Real.log (mass ξ)

theorem lossOf_nonneg : 0 ≤ lossOf ξ l :=
  add_nonneg (sub_nonneg.mpr (le_top ξ l)) (Real.log_nonneg (one_le_mass ξ))

/-- The exponentials' sum among the reals with infinities. -/
theorem sum_exp : ∑ k, Idealize.ShloMosaic.Ideal.exp ((ξ k : EReal) - (top ξ : EReal)) = (mass ξ : EReal) := by
  unfold mass
  rw [coe_sum]
  exact Finset.sum_congr rfl fun k _ => by rw [← EReal.coe_sub]; rfl

theorem log_mass : Idealize.ShloMosaic.Ideal.log (mass ξ : EReal) = (Real.log (mass ξ) : EReal) := by
  have h := one_le_mass ξ
  exact if_neg (by linarith)

end Cert.Ohem
-- ==== Proof.Ideal.Loss.lean ====
/- A row of losses at the reals: where a sample's logits are real numbers and its label is a class, the kernel's loss of the
   sample is the real number `lossOf`. -/
module

public import proofs.«01_k».proof.Proof.Ideal.Body
public import proofs.«01_k».proof.Proof.Maths.Loss
public import Idealize.ShloMosaic.PureOps.Ideal.Laws
public import Idealize.ShloMosaic.Lib.MatmulPlain
public import Idealize.ShloMosaic.Lib.ValueLayout
public import Idealize.ShloMosaic.Lib.ValueIdx
public import Idealize.ShloMosaic.Lib.WordCmp

@[expose] public section

noncomputable section

namespace Cert.Ohem

open Cert.KernelIdeal Cert.KernelIdeal.Gen
open Idealize.ShloMosaic Idealize.ShloMosaic.ValueIdx

/-- The kernel's greatest logit of each sample. -/
def topRow (x : Vec Ideal S1000x512 .f32) : FVec Ideal S1x512 .f32 :=
  shapeCast S1x512 (multiReduction .maximumf [0] S512 (shapeCast S1000x512 x shapeCasts_S1000x512_S1000x512 : FVec Ideal S1000x512 .f32)
    0xFF800000#32 reduces_S1000x512_S512 (.inl rfl) rfl) shapeCasts_S512_S1x512

/-- The kernel's sum over the classes, a product by a row of ones. -/
def sumRow (x : FVec Ideal S1000x512 .f32) : FVec Ideal S1x512 .f32 :=
  matmul dot_S1x1000_S1000x512_S1x512_1_0_0_1_n_n none (k0_pay7 (F := Ideal)) x (constant S1x512 .f32 0x00000000#32)

/-- The kernel's exponentials. -/
def expBlock (x : Vec Ideal S1000x512 .f32) : FVec Ideal S1000x512 .f32 :=
  exp (subf (shapeCast S1000x512 x shapeCasts_S1000x512_S1000x512 : FVec Ideal S1000x512 .f32)
    (broadcastTo S1000x512 (topRow x) broadcasts_S1x512_S1000x512))

/-- The kernel's logits with every class but the label set to zero. -/
def labelBlock (x : Vec Ideal S1000x512 .f32) (y : Vec Ideal S1x1x512 .i32) : FVec Ideal S1000x512 .f32 :=
  Idealize.ShloMosaic.select (cmpi .eq (iota .tc S1000x512 32 [0] iota_S1000x512_d0_w32)
      (broadcastTo S1000x512 (shapeCast S1x512 y shapeCasts_S1x1x512_S1x512 : IVec S1x512 32) broadcasts_S1x512_S1000x512))
    (shapeCast S1000x512 x shapeCasts_S1000x512_S1000x512) (broadcast S1000x512 (Scalar.ofBits .f32 0x00000000#32))

theorem lossRow_stages (x : Vec Ideal S1000x512 .f32) (y : Vec Ideal S1x1x512 .i32) :
    lossRow x y = addf (subf (topRow x) (sumRow (labelBlock x y))) (log (sumRow (expBlock x))) :=
  shapeCast_self _ _

theorem topRow_apply (x : Vec Ideal S1000x512 .f32) (c : Fin 512) (ξ : Fin 1000 → ℝ) (hx : ∀ k, x (ix2 k c) = (ξ k : EReal)) :
    topRow x (ix2 (0 : Fin 1) c) = (top ξ : EReal) := by
  unfold topRow
  rw [shapeCast_self]
  refine (shapeCast_a_1a_apply _ _ _ _).trans ?_
  refine (Ideal.multiReduction_maximumf_single _ _ _ _ _ _).trans ?_
  rw [← fold_top ξ]
  have hbot : (FloatOps.ofBits .f32 0xFF800000#32 : Ideal .f32) = (⊥ : EReal) := by simp [Ideal.ofBits, Ideal.ieee]
  rw [hbot]
  refine congrArg (fun f => (Finset.univ : Finset (Fin 1000)).fold max (⊥ : EReal) f) (funext fun k => ?_)
  rw [← hx k]
  refine congrArg x (funext fun a => ?_)
  match a with
  | ⟨0, _⟩ => rfl
  | ⟨1, _⟩ => rfl

theorem one_f32 : (FloatOps.ofBits .f32 0x3F800000#32 : Ideal .f32) = (1 : EReal) := by
  simp [Ideal.ofBits, Ideal.ieee]
  rw [← EReal.coe_mul, ← EReal.coe_one]
  norm_num

theorem sumRow_apply (x : FVec Ideal S1000x512 .f32) (c : Fin 512) : sumRow x (ix2 (0 : Fin 1) c) = ∑ k : Fin 1000, x (ix2 k c) := by
  unfold sumRow
  refine (Ideal.matmul_plain_apply (M := 1) (K := 1000) (N := 512) none (k0_pay7 (F := Ideal)) x _ 0 c).trans ?_
  have h0 : (constant S1x512 .f32 0x00000000#32 : FVec Ideal S1x512 .f32) (ix2 (0 : Fin 1) c) = (0 : EReal) := Ideal.ofBits_zero_f32
  rw [h0, zero_add]
  refine Finset.sum_congr rfl fun k _ => ?_
  have h1 : (k0_pay7 (F := Ideal)) (ix2 (0 : Fin 1) k) = (1 : EReal) := one_f32
  rw [h1, one_mul]

theorem expBlock_apply (x : Vec Ideal S1000x512 .f32) (c : Fin 512) (ξ : Fin 1000 → ℝ) (hx : ∀ k, x (ix2 k c) = (ξ k : EReal)) (k : Fin 1000) :
    expBlock x (ix2 k c) = Ideal.exp ((ξ k : EReal) - (top ξ : EReal)) := by
  unfold expBlock
  rw [shapeCast_self]
  change Ideal.exp (x (ix2 k c) - broadcastTo S1000x512 (topRow x) broadcasts_S1x512_S1000x512 (ix2 k c)) = _
  rw [hx, ← topRow_apply x c ξ hx]
  exact congrArg (fun t => Ideal.exp ((ξ k : EReal) - t)) (broadcastTo_1b_ab_apply _ _ _ _)

theorem labelBlock_apply (x : Vec Ideal S1000x512 .f32) (y : Vec Ideal S1x1x512 .i32) (c : Fin 512) (l : Fin 1000)
    (hy : y (ix3 (0 : Fin 1) (0 : Fin 1) c) = BitVec.ofNat 32 l.val) (k : Fin 1000) :
    labelBlock x y (ix2 k c) = if k = l then x (ix2 k c) else 0 := by
  unfold labelBlock
  rw [shapeCast_self]
  have hl : broadcastTo S1000x512 (shapeCast S1x512 y shapeCasts_S1x1x512_S1x512 : IVec S1x512 32) broadcasts_S1x512_S1000x512 (ix2 k c)
      = BitVec.ofNat 32 l.val :=
    (broadcastTo_1b_ab_apply _ _ _ _).trans ((shapeCast_1ab_ab_apply _ _ _ _).trans hy)
  have hi : iota .tc S1000x512 32 [0] iota_S1000x512_d0_w32 (ix2 k c) = BitVec.ofNat 32 k.val := by
    change BitVec.ofNat 32 (0 * 1000 + k.val) = _
    rw [Nat.zero_mul, Nat.zero_add]
  have htest : IntOp.cmpi .eq (BitVec.ofNat 32 k.val) (BitVec.ofNat 32 l.val) = 1#1 ↔ k = l := by
    rw [WordCmp.cmpi_eq_ofNat_eq_one_iff (by omega) (by omega), Fin.ext_iff]
  change Scalar.select (IntOp.cmpi .eq (iota .tc S1000x512 32 [0] iota_S1000x512_d0_w32 (ix2 k c)) (broadcastTo S1000x512 _ _ (ix2 k c))) _ _ = _
  rw [hl, hi]
  by_cases h : k = l
  · rw [if_pos h]; exact if_pos (htest.mpr h)
  · rw [if_neg h]; exact (if_neg (mt htest.mp h)).trans Ideal.ofBits_zero_f32

/-- The kernel's loss of a sample. -/
theorem lossRow_apply (x : Vec Ideal S1000x512 .f32) (y : Vec Ideal S1x1x512 .i32) (c : Fin 512) (ξ : Fin 1000 → ℝ) (l : Fin 1000)
    (hx : ∀ k, x (ix2 k c) = (ξ k : EReal)) (hy : y (ix3 (0 : Fin 1) (0 : Fin 1) c) = BitVec.ofNat 32 l.val) :
    lossRow x y (ix2 (0 : Fin 1) c) = (lossOf ξ l : EReal) := by
  rw [lossRow_stages]
  change topRow x (ix2 (0 : Fin 1) c) - sumRow (labelBlock x y) (ix2 (0 : Fin 1) c) + Ideal.log (sumRow (expBlock x) (ix2 (0 : Fin 1) c)) = _
  rw [topRow_apply x c ξ hx, sumRow_apply, sumRow_apply, Finset.sum_congr rfl fun k _ => expBlock_apply x c ξ hx k, sum_exp, log_mass,
    Finset.sum_congr rfl fun k _ => labelBlock_apply x y c l hy k, Finset.sum_ite_eq' Finset.univ l, if_pos (Finset.mem_univ l), hx,
    ← EReal.coe_sub, ← EReal.coe_add]
  rfl

end Cert.Ohem
-- ==== Proof.Maths.Search.lean ====
/- A search for a number bit by bit, from the highest bit down: after the bits from 30 down to `31 - k` are settled, the
   search holds the number with its lower bits cleared. -/
module

public import Idealize.ShloMosaic.PureOps.Ideal.Laws

@[expose] public section

namespace Cert.Ohem

/-- What the search for `p` holds once `k` of the 31 bits are settled. -/
def settled (p k : ℕ) : ℕ := p / 2 ^ (31 - k) * 2 ^ (31 - k)

theorem settled_zero {p : ℕ} (h : p < 2 ^ 31) : settled p 0 = 0 := by
  unfold settled; rw [Nat.div_eq_of_lt h, Nat.zero_mul]

theorem settled_last (p : ℕ) : settled p 31 = p := by
  unfold settled; simp

theorem settled_le (p k : ℕ) : settled p k ≤ p := Nat.div_mul_le_self _ _

/-- The candidate of a step: the next bit set. -/
theorem candidate_eq (p : ℕ) {k : ℕ} (hk : k < 31) : settled p k ||| 2 ^ (30 - k) = settled p k + 2 ^ (30 - k) := by
  unfold settled
  rw [Nat.mul_comm, ← Nat.two_pow_add_eq_or_of_lt (Nat.pow_lt_pow_right (by norm_num) (by omega))]

/-- A step: the candidate is kept when it does not pass `p`. -/
theorem settled_succ (p : ℕ) {k : ℕ} (hk : k < 31) :
    settled p (k + 1) = if settled p k + 2 ^ (30 - k) ≤ p then settled p k + 2 ^ (30 - k) else settled p k := by
  unfold settled
  have h2 : 2 ^ (31 - k) = 2 * 2 ^ (30 - k) := by
    rw [show 31 - k = (30 - k) + 1 by omega, pow_succ, Nat.mul_comm]
  rw [show 31 - (k + 1) = 30 - k by omega, h2]
  generalize hq : 2 ^ (30 - k) = q
  have hq0 : 0 < q := by rw [← hq]; positivity
  rw [Nat.mul_comm 2 q, ← Nat.div_div_eq_div_mul]
  have hp := Nat.div_add_mod p q
  have hm := Nat.mod_lt p hq0
  generalize p / q = a at *
  generalize p % q = b at *
  have ha := Nat.div_add_mod a 2
  have hb := Nat.mod_lt a (by norm_num : 0 < 2)
  generalize a / 2 = c at *
  generalize a % 2 = d at *
  subst ha
  have hd : d = 0 ∨ d = 1 := by omega
  rcases hd with rfl | rfl
  · rw [if_neg (by nlinarith)]; ring
  · rw [if_pos (by nlinarith)]; ring

end Cert.Ohem
-- ==== Proof.Ideal.Select.lean ====
/- The selection at the reals: the bit search over the ranks finds the rank of the 11468th largest loss, and what the last
   grid point computes is the sum of the 11468 largest losses over 11468. -/
module

public import proofs.«01_k».proof.Proof.Ideal.Ranks
public import proofs.«01_k».proof.Proof.Maths.Search
public import proofs.«01_k».proof.Proof.Maths.Coe

@[expose] public section

noncomputable section

namespace Cert.Ohem

open Cert.KernelIdeal Cert.KernelIdeal.Gen
open Idealize.ShloMosaic Idealize.ShloMosaic.ValueIdx

theorem trips2 : k0_t2_loop.trips = 31 := rfl

/-- The bit that a trip of the search tries. -/
theorem bit_eq : ∀ k : Fin 31, Scalar.shli 1#32 (Scalar.subi 30#32 (Scf.iv 0#32 1#32 k.val)) = BitVec.ofNat 32 (2 ^ (30 - k.val)) := by
  decide

/-- The listing's last kept place. -/
abbrev lastKept : Fin 16384 := ⟨11467, by norm_num⟩

variable (v : Vec Ideal S32x512 .f32) (r : S32x512.Idx → ℝ) (hv : ∀ i, v i = (r i : EReal)) (h0 : ∀ i, 0 ≤ r i)
  (σ : Fin 16384 → S32x512.Idx) (hσ : Function.Bijective σ) (hr : Antitone (r ∘ σ))

include hσ in
theorem count_le (p : S32x512.Idx → Prop) [DecidablePred p] : (Finset.univ.filter p).card ≤ 16384 := by
  have h := Finset.card_le_univ (Finset.univ.filter p)
  rwa [← Fintype.card_of_bijective hσ, Fintype.card_fin] at h

include hσ in
theorem rank_lt_size (i : S32x512.Idx) : rank r i < 16384 := by
  have h := rank_lt_card r i
  rwa [← Fintype.card_of_bijective hσ, Fintype.card_fin] at h

include hσ hr in
/-- A trip of the search over the ranks. -/
theorem bitStep_apply (b : IVec S32x512 32) (hb : ∀ i, b i = BitVec.ofNat 32 (rank r i)) (k : Fin k0_t2_loop.trips) :
    bitStep b k (BitVec.ofNat 32 (settled (rank r (σ lastKept)) k.val)) = BitVec.ofNat 32 (settled (rank r (σ lastKept)) (k.val + 1)) := by
  have hk : k.val < 31 := trips2 ▸ k.isLt
  have hp := rank_lt_size r σ hσ (σ lastKept)
  generalize hP : rank r (σ lastKept) = p at *
  have hA := settled_le p k.val
  have hj : 2 ^ (30 - k.val) ≤ 2 ^ 30 := Nat.pow_le_pow_right (by norm_num) (by omega)
  have hcand : Scalar.ori (BitVec.ofNat 32 (settled p k.val)) (Scalar.shli 1#32 (Scalar.subi 30#32 (Scf.iv 0#32 1#32 k.val)))
      = BitVec.ofNat 32 (settled p k.val + 2 ^ (30 - k.val)) := by
    rw [bit_eq ⟨k.val, hk⟩, ← candidate_eq p hk]
    exact (BitVec.ofNat_or).symm
  change Scalar.select (Scalar.cmpi .sge (tally (cmpi .sge b (broadcast S32x512 (Scalar.ori _ (Scalar.shli 1#32 (Scalar.subi 30#32 (Scf.iv 0#32 1#32 k.val))))))) 11468#32)
    (Scalar.ori _ (Scalar.shli 1#32 (Scalar.subi 30#32 (Scf.iv 0#32 1#32 k.val)))) _ = _
  rw [hcand, tally_eq, settled_succ p hk]
  have hset : (Finset.univ.filter fun i => cmpi .sge b (broadcast S32x512 (BitVec.ofNat 32 (settled p k.val + 2 ^ (30 - k.val)))) i = 1#1)
      = Finset.univ.filter fun i => settled p k.val + 2 ^ (30 - k.val) ≤ rank r i := by
    ext i
    have := rank_lt_size r σ hσ i
    simp only [Finset.mem_filter, Finset.mem_univ, true_and]
    change IntOp.cmpi .sge (b i) (BitVec.ofNat 32 _) = 1#1 ↔ _
    rw [hb i, WordCmp.cmpi_sge_ofNat_eq_one_iff (by omega) (by omega)]
  have hreach := reach_iff r σ hσ hr (K := 11468) lastKept rfl (settled p k.val + 2 ^ (30 - k.val))
  rw [hP] at hreach
  have hc := count_le σ hσ fun i => settled p k.val + 2 ^ (30 - k.val) ≤ rank r i
  rw [hset]
  unfold Scalar.select
  have htest : (Scalar.cmpi .sge (BitVec.ofNat 32 (Finset.univ.filter fun i => settled p k.val + 2 ^ (30 - k.val) ≤ rank r i).card) 11468#32 = 1)
      ↔ settled p k.val + 2 ^ (30 - k.val) ≤ p := by
    rw [← hreach]
    exact WordCmp.cmpi_sge_ofNat_eq_one_iff (by omega) (by norm_num)
  by_cases h : settled p k.val + 2 ^ (30 - k.val) ≤ p
  · rw [if_pos (htest.mpr h), if_pos h]
  · rw [if_neg (mt htest.mp h), if_neg h]

include hσ hr in
/-- The search ends at the rank of the 11468th largest loss. -/
theorem cut_eq (b : IVec S32x512 32) (hb : ∀ i, b i = BitVec.ofNat 32 (rank r i)) : cut b = BitVec.ofNat 32 (rank r (σ lastKept)) := by
  have hp := rank_lt_size r σ hσ (σ lastKept)
  have h := fold_keeps (bitStep b) 0#32 (fun n acc => acc = BitVec.ofNat 32 (settled (rank r (σ lastKept)) n))
    (by rw [settled_zero (by omega)]) (fun k acc ih => by rw [ih, bitStep_apply r σ hσ hr b hb k])
  exact h.trans (by rw [trips2, settled_last])

include hv h0 hσ hr in
/-- The kernel's result from its losses. -/
theorem select_eq : select v = Ideal.div ((∑ j : Fin 16384, (if j ≤ lastKept then r (σ j) else 0) : ℝ) : EReal)
    (Ideal.ofBits .f32 0x46333000#32) := by
  have hb := ranks_eq v r hv
  have hcut := cut_eq r σ hσ hr (ranks v) hb
  have hp := rank_lt_size r σ hσ
  unfold select
  rw [hcut]
  generalize ranks v = b at *
  set T := r (σ lastKept) with hT
  have hgt : ∀ i, cmpi .sgt b (broadcast S32x512 (BitVec.ofNat 32 (rank r (σ lastKept)))) i = 1#1 ↔ T < r i := fun i => by
    change IntOp.cmpi .sgt (b i) (BitVec.ofNat 32 _) = 1#1 ↔ _
    have := hp i
    have := hp (σ lastKept)
    rw [hb i, WordCmp.cmpi_sgt_ofNat_eq_one_iff (by omega) (by omega), rank_lt_iff]
  have heq : ∀ i, cmpi .eq b (broadcast S32x512 (BitVec.ofNat 32 (rank r (σ lastKept)))) i = 1#1 ↔ r i = T := fun i => by
    change IntOp.cmpi .eq (b i) (BitVec.ofNat 32 _) = 1#1 ↔ _
    have := hp i
    have := hp (σ lastKept)
    rw [hb i, WordCmp.cmpi_eq_ofNat_eq_one_iff (by omega) (by omega), rank_eq_iff]
  change Ideal.div (total (Idealize.ShloMosaic.select (cmpi .sgt b (broadcast S32x512 (BitVec.ofNat 32 (rank r (σ lastKept))))) v
      (broadcast S32x512 (Scalar.ofBits .f32 0x00000000#32)))
    + (((Scalar.subi 11468#32 (tally (cmpi .sgt b (broadcast S32x512 (BitVec.ofNat 32 (rank r (σ lastKept))))))).toInt : ℝ) : EReal)
      * greatest (Idealize.ShloMosaic.select (cmpi .eq b (broadcast S32x512 (BitVec.ofNat 32 (rank r (σ lastKept))))) v
      (broadcast S32x512 (Scalar.ofBits .f32 0x00000000#32)))) (Ideal.ofBits .f32 0x46333000#32) = _
  have hsum : total (Idealize.ShloMosaic.select (cmpi .sgt b (broadcast S32x512 (BitVec.ofNat 32 (rank r (σ lastKept))))) v
      (broadcast S32x512 (Scalar.ofBits .f32 0x00000000#32))) = ((∑ i, (if T < r i then r i else 0) : ℝ) : EReal) := by
    rw [total_eq, coe_sum]
    refine Finset.sum_congr rfl fun i _ => ?_
    rw [coe_if, ← hv]
    by_cases h : T < r i
    · rw [if_pos h]; exact if_pos ((hgt i).mpr h)
    · rw [if_neg h]; exact (if_neg (mt (hgt i).mp h)).trans Ideal.ofBits_zero_f32
  have hmax : greatest (Idealize.ShloMosaic.select (cmpi .eq b (broadcast S32x512 (BitVec.ofNat 32 (rank r (σ lastKept))))) v
      (broadcast S32x512 (Scalar.ofBits .f32 0x00000000#32))) = (T : EReal) := by
    refine greatest_eq _ _ (fun i => ?_) ⟨σ lastKept, ?_⟩
    · by_cases h : r i = T
      · exact (if_pos ((heq i).mpr h)).le.trans (by rw [hv, h])
      · exact ((if_neg (mt (heq i).mp h)).trans Ideal.ofBits_zero_f32).le.trans (EReal.coe_nonneg.mpr (h0 _))
    · exact (if_pos ((heq _).mpr rfl)).trans (hv _)
  have hset : (Finset.univ.filter fun i => cmpi .sgt b (broadcast S32x512 (BitVec.ofNat 32 (rank r (σ lastKept)))) i = 1#1)
      = Finset.univ.filter fun i => T < r i := Finset.filter_congr fun i _ => hgt i
  have hc : (Finset.univ.filter fun i => T < r i).card < 11468 := by
    have h := reach_iff r σ hσ hr (K := 11468) lastKept rfl (rank r (σ lastKept) + 1)
    have e : (Finset.univ.filter fun i => rank r (σ lastKept) + 1 ≤ rank r i) = Finset.univ.filter fun i => T < r i :=
      Finset.filter_congr fun i _ => by rw [Nat.succ_le_iff, rank_lt_iff]
    rw [e] at h
    omega
  rw [hsum, hmax, tally_eq, hset, top_sum r σ hσ hr (K := 11468) lastKept rfl]
  generalize (Finset.univ.filter fun i => T < r i).card = c at hc
  have hsub : (Scalar.subi 11468#32 (BitVec.ofNat 32 c)).toInt = 11468 - (c : ℤ) := by
    have : Scalar.subi 11468#32 (BitVec.ofNat 32 c) = BitVec.ofNat 32 (11468 - c) := by
      change 11468#32 - BitVec.ofNat 32 c = _
      rw [BitVec.ofNat_sub_ofNat_of_le _ _ (by omega) (by omega)]
    rw [this, WordCmp.toInt_ofNat_of_lt (by omega)]
    omega
  have hcast : (((11468 - (c : ℤ) : ℤ)) : ℝ) = ((11468 : ℕ) : ℝ) - (c : ℝ) := by norm_num
  rw [hsub, hcast, EReal.coe_add, EReal.coe_mul]

end Cert.Ohem
-- ==== Proof.Ideal.Value.lean ====
/- The kernel's answer at the reals: the sum of the 11468 greatest losses over 11468, the losses read down any listing of the
   samples on which they never rise. -/
module

public import proofs.«01_k».proof.Proof.Ideal.Blocks
public import proofs.«01_k».proof.Proof.Ideal.Loss
public import proofs.«01_k».proof.Proof.Ideal.Select

@[expose] public section

noncomputable section

namespace Cert.Ohem

open Cert.KernelIdeal Cert.KernelIdeal.Gen
open Idealize.ShloMosaic Idealize.ShloMosaic.TcCoe

/-- The entry that holds a sample's loss. -/
def entryOf (b : Fin 16384) : S32x512.Idx := entry b.val b.isLt

theorem sample_entryOf (b : Fin 16384) : sample (entryOf b) = b := Fin.ext ((place_eq_iff _ b.val b.isLt).mpr rfl)

theorem entryOf_sample (y : S32x512.Idx) : entryOf (sample y) = y := ((place_eq_iff y (place y) (place_lt y)).mp rfl).symm

theorem entryOf_bijective : Function.Bijective entryOf :=
  ⟨fun a b h => by rw [← sample_entryOf a, ← sample_entryOf b, h], fun y => ⟨sample y, entryOf_sample y⟩⟩

variable (m : (ℓ : Loc nD τ sig) → Buf (Elt Ideal) ℓ) (c : Dev nD) (ξ : Fin 16384 → Fin 1000 → ℝ) (l : Fin 16384 → Fin 1000)
  (hx : ∀ b k, (m ((c : Thread nD τ).loc main_arg0) : Vec Ideal S16384x1000 .f32) (ValueIdx.ix2 b k) = (ξ b k : EReal))
  (hy : ∀ b, (m ((c : Thread nD τ).loc main_arg1) : Vec Ideal S16384 .i32) (ValueIdx.ix1 b) = BitVec.ofNat 32 (l b).val)

include hx hy

/-- An entry of the kernel's losses is the loss of its sample. -/
theorem losses_real (y : S32x512.Idx) : losses m c y = (lossOf (ξ (sample y)) (l (sample y)) : EReal) := by
  obtain ⟨x, z, hl, hX, hZ⟩ := losses_apply m c y
  rw [hl]
  exact lossRow_apply x z (y 1) _ _ (fun k => (hX k).trans (hx _ k)) (hZ.trans (hy _))

/-- The kernel's answer. -/
theorem select_losses (ρ : Fin 16384 → Fin 16384) (hρ : Function.Bijective ρ)
    (hfall : ∀ i j, i < j → lossOf (ξ (ρ j)) (l (ρ j)) ≤ lossOf (ξ (ρ i)) (l (ρ i))) :
    select (losses m c) = Ideal.div ((∑ j : Fin 16384, (if j.val < 11468 then lossOf (ξ (ρ j)) (l (ρ j)) else 0) : ℝ) : EReal)
      (Ideal.ofBits .f32 0x46333000#32) := by
  have hr (j : Fin 16384) : lossOf (ξ (sample (entryOf (ρ j)))) (l (sample (entryOf (ρ j)))) = lossOf (ξ (ρ j)) (l (ρ j)) := by
    rw [sample_entryOf]
  refine (select_eq (losses m c) (fun y => lossOf (ξ (sample y)) (l (sample y))) (losses_real m c ξ l hx hy)
    (fun y => lossOf_nonneg _ _) (entryOf ∘ ρ) (entryOf_bijective.comp hρ) ?_).trans ?_
  · intro i j hij
    change lossOf (ξ (sample (entryOf (ρ j)))) (l (sample (entryOf (ρ j)))) ≤ lossOf (ξ (sample (entryOf (ρ i)))) (l (sample (entryOf (ρ i))))
    rw [hr, hr]
    rcases lt_or_eq_of_le hij with h | h
    · exact hfall i j h
    · rw [h]
  · refine congrArg (fun t : ℝ => Ideal.div (t : EReal) (Ideal.ofBits .f32 0x46333000#32)) (Finset.sum_congr rfl fun j _ => ?_)
    refine (if_congr ?_ (hr j) rfl)
    rw [Fin.le_def]
    exact Nat.lt_succ_iff.symm

end Cert.Ohem
-- ==== Proof.Precondition.lean ====
/- What the precondition says: every logit is a real number and every label is a class. -/
module

public import proofs.«01_k».proof.Pre_logits_finite_labels_in_range
public import Idealize.ShloMosaic.PureOps.Ideal.Laws
public import Idealize.ShloMosaic.Lib.IdealHost
public import Idealize.ShloMosaic.Lib.Pipeline.Value
public import Idealize.ShloMosaic.Lib.ReduceAll
public import Idealize.ShloMosaic.Lib.ValueIdx
public import Idealize.ShloMosaic.Lib.WordCmp

@[expose] public section

noncomputable section

namespace Cert.Ohem

open Cert.Pre_logits_finite_labels_in_range
open Idealize.ShloMosaic

/-- The precondition's shape facts. -/
theorem preFacts : Cert.Pre_logits_finite_labels_in_range.Facts := ⟨by decide, by decide, by decide, by decide⟩

/-- An extended real whose absolute value is below plus infinity is a real number. -/
theorem real_of_abs_lt_top (t : EReal) (h : max t (-t) < ⊤) : t = (t.toReal : EReal) := by
  refine (EReal.coe_toReal ?_ ?_).symm
  · rintro rfl
    exact absurd (lt_of_le_of_lt (le_max_left _ _) h) (lt_irrefl _)
  · rintro rfl
    exact absurd (lt_of_le_of_lt (le_max_right _ _) h) (by simp)

/-- A word that is at least 0 and below 1000 is a class. -/
theorem class_of_tests (w : BitVec 32) (h0 : IntOp.cmpi .sge w 0#32 = 1#1) (h1 : IntOp.cmpi .slt w 1000#32 = 1#1) :
    ∃ l : Fin 1000, w = BitVec.ofNat 32 l.val := by
  rw [WordCmp.cmpi_sge_zero, WordCmp.ofBool_decide_eq_one_iff] at h0
  rw [WordCmp.cmpi_slt_of_lt h0 (by decide), WordCmp.ofBool_decide_eq_one_iff] at h1
  exact ⟨⟨w.toNat, h1⟩, (BitVec.ofNat_toNat 32 w).symm ▸ (BitVec.setWidth_eq w).symm⟩

variable [Cert.Pre_logits_finite_labels_in_range.Facts] (x : FVec Ideal S16384x1000 .f32) (y : IVec S16384 32)

/-- Under the precondition every logit is a real number and every label is a class. -/
theorem real_logits_and_classes (h : fn (F := Ideal) x y = fun _ => 1#1) (b : Fin 16384) (k : Fin 1000) :
    x (ValueIdx.ix2 b k) = ((x (ValueIdx.ix2 b k) : EReal).toReal : EReal) ∧ ∃ l : Fin 1000, y (ValueIdx.ix1 b) = BitVec.ofNat 32 l.val := by
  have hbk := congrFun h (ValueIdx.ix2 b k)
  unfold fn at hbk
  obtain ⟨hx, hy⟩ := IntOp.andi_eq_one.1 hbk
  constructor
  · refine real_of_abs_lt_top _ ?_
    have htop : (Scalar.ofBits .f32 0x7F800000#32 : Ideal .f32) = (⊤ : EReal) := by
      change (FloatOps.ofBits .f32 0x7F800000#32 : Ideal .f32) = _
      simp [Ideal.ofBits, Ideal.ieee]
    rw [← htop]
    exact (WordCmp.ofBool_decide_eq_one_iff _).mp hx
  · have hcol : broadcastInDim S16384x1000 ![0, 1] Facts.bcast_S16384x1_S16384x1000_0_1
        (broadcastInDim S16384x1 ![0] Facts.bcast_S16384_S16384x1_0
          (andi (cmpi .sge y (broadcastInDim S16384 ![] Facts.bcast_S_S16384 (constantI S_ 32 0#32)))
            (cmpi .slt y (broadcastInDim S16384 ![] Facts.bcast_S_S16384 (constantI S_ 32 1000#32))))) (ValueIdx.ix2 b k)
        = IntOp.andi (IntOp.cmpi .sge (y (ValueIdx.ix1 b)) 0#32) (IntOp.cmpi .slt (y (ValueIdx.ix1 b)) 1000#32) := by
      refine (broadcastInDim_apply _ _ _ _ (ValueIdx.ix2 b (0 : Fin 1)) fun a => match a with
        | ⟨0, _⟩ => rfl
        | ⟨1, _⟩ => rfl).trans ?_
      exact (broadcastInDim_apply _ _ _ _ (ValueIdx.ix1 b) fun a => match a with
        | ⟨0, _⟩ => rfl).trans rfl
    obtain ⟨h0, h1⟩ := IntOp.andi_eq_one.1 (hcol.symm.trans hy)
    exact class_of_tests _ h0 h1

end Cert.Ohem
-- ==== Proof.Reference.Logits.lean ====
/- The reference's log-probabilities at the reals: where a sample's logits are real numbers, the log-probability of a class is
   its logit less the greatest one, less the logarithm of the sample's mass. -/
module

public import proofs.«01_k».proof.Proof.Gen.ReferenceIdeal
public import proofs.«01_k».proof.Proof.Maths.Loss
public import Idealize.ShloMosaic.PureOps.Ideal.Laws
public import Idealize.ShloMosaic.Lib.KernelVsHost
public import Idealize.ShloMosaic.Lib.IdealHost
public import Idealize.ShloMosaic.Lib.Pipeline.Value
public import Idealize.ShloMosaic.Lib.ValueIdx

@[expose] public section

noncomputable section

namespace Cert.Ohem.Reference

open Cert.ReferenceIdeal Cert.ReferenceIdeal.Gen
open Idealize.ShloMosaic

/-- The reference's greatest logit of each sample. -/
def topOf (x : FVec Ideal S16384x1000 .f32) : FVec Ideal S16384 .f32 :=
  maximumf (broadcastInDim S16384 ![] bcast_S_S16384 (constant S_ .f32 0xFF800000#32))
    (Host.reduce FloatOps.maximumf x (constant S_ .f32 0xFF800000#32) reducesTo_S16384x1000_S16384_d1 h_S_)

/-- A number of each sample, repeated over the classes. -/
def overClasses (v : FVec Ideal S16384x1 .f32) : FVec Ideal S16384x1000 .f32 :=
  broadcastInDim S16384x1000 ![0, 1] bcast_S16384x1_S16384x1000_0_1 v

/-- A number of each sample, as a column. -/
def column (v : FVec Ideal S16384 .f32) : FVec Ideal S16384x1 .f32 := broadcastInDim S16384x1 ![0] bcast_S16384_S16384x1_0 v

/-- The reference's logits less the greatest of their sample. -/
def centred (x : FVec Ideal S16384x1000 .f32) : FVec Ideal S16384x1000 .f32 := subf x (overClasses (column (topOf x)))

/-- The reference's sum of exponentials of each sample. -/
def massOf (x : FVec Ideal S16384x1000 .f32) : FVec Ideal S16384 .f32 :=
  Host.reduceAdd (Host.exp (centred x)) (constant S_ .f32 0x00000000#32) reducesTo_S16384x1000_S16384_d1 h_S_

/-- The reference's log-probabilities. -/
def logProbs (x : FVec Ideal S16384x1000 .f32) : FVec Ideal S16384x1000 .f32 :=
  subf (centred x) (overClasses (Host.log (column (massOf x))))

theorem overClasses_apply (v : FVec Ideal S16384x1 .f32) (b : Fin 16384) (k : Fin 1000) :
    overClasses v (ValueIdx.ix2 b k) = v (ValueIdx.ix2 b (0 : Fin 1)) :=
  broadcastInDim_apply _ _ v _ _ fun a => match a with
    | ⟨0, _⟩ => rfl
    | ⟨1, _⟩ => rfl

theorem column_apply (v : FVec Ideal S16384 .f32) (b : Fin 16384) (z : Fin 1) : column v (ValueIdx.ix2 b z) = v (ValueIdx.ix1 b) :=
  broadcastInDim_apply _ _ v _ _ fun a => match a with
    | ⟨0, _⟩ => rfl

theorem hostLog_apply {s : Shape} (v : FVec Ideal s .f32) (i : s.Idx) : Host.log v i = Ideal.log (v i) := rfl

theorem hostExp_apply {s : Shape} (v : FVec Ideal s .f32) (i : s.Idx) : Host.exp v i = Ideal.exp (v i) := rfl

theorem maximumf_apply {s : Shape} (v w : FVec Ideal s .f32) (i : s.Idx) : maximumf v w i = max (v i) (w i) := rfl

theorem subf_apply {s : Shape} (v w : FVec Ideal s .f32) (i : s.Idx) : subf v w i = v i - w i := rfl

theorem reduces_classes : S16384x1000.Reduces [1] S16384 := by decide

theorem lift_classes (b : Fin 16384) (k : Fin 1000) : reduces_classes.lift (ValueIdx.ix1 b) k = ValueIdx.ix2 b k :=
  funext fun a => match a with
    | ⟨0, _⟩ => rfl
    | ⟨1, _⟩ => rfl

section

variable (x : FVec Ideal S16384x1000 .f32) (b : Fin 16384) (ξ : Fin 1000 → ℝ) (hx : ∀ k, x (ValueIdx.ix2 b k) = (ξ k : EReal))

include hx

theorem greatest_apply (i : S_.Idx → Ideal .f32) (hi : i = constant S_ .f32 0xFF800000#32) :
    Host.reduce FloatOps.maximumf x i reducesTo_S16384x1000_S16384_d1 h_S_ (ValueIdx.ix1 b) = (top ξ : EReal) := by
  subst hi
  refine (congrFun (hostReduce_maximumf_eq_multiReduction x 0xFF800000#32 reducesTo_S16384x1000_S16384_d1 h_S_ reduces_classes
    (.inl rfl) rfl) (ValueIdx.ix1 b)).trans ?_
  refine (Ideal.multiReduction_maximumf_single _ _ _ _ _ _).trans ?_
  have hbot : (FloatOps.ofBits .f32 0xFF800000#32 : Ideal .f32) = (⊥ : EReal) := by simp [Ideal.ofBits, Ideal.ieee]
  rw [← fold_top ξ, hbot]
  refine congrArg (fun f => (Finset.univ : Finset (Fin 1000)).fold max (⊥ : EReal) f) (funext fun k => ?_)
  rw [← hx k]
  exact congrArg x (lift_classes b k)

theorem topOf_apply : topOf x (ValueIdx.ix1 b) = (top ξ : EReal) := by
  unfold topOf
  rw [maximumf_apply, greatest_apply x b ξ hx _ rfl]
  have hbot : broadcastInDim S16384 ![] bcast_S_S16384 (constant S_ .f32 0xFF800000#32 : FVec Ideal S_ .f32) (ValueIdx.ix1 b) = (⊥ : EReal) := by
    rw [broadcastInDim_constant]
    change (FloatOps.ofBits .f32 0xFF800000#32 : Ideal .f32) = _
    simp [Ideal.ofBits, Ideal.ieee]
  rw [hbot]
  exact max_eq_right bot_le

theorem centred_apply (k : Fin 1000) : centred x (ValueIdx.ix2 b k) = (ξ k : EReal) - (top ξ : EReal) := by
  unfold centred
  rw [subf_apply, overClasses_apply, column_apply, topOf_apply x b ξ hx, hx]

theorem massOf_apply : massOf x (ValueIdx.ix1 b) = (mass ξ : EReal) := by
  unfold massOf
  rw [ValueIdx.hostReduceAdd_apply]
  refine (Ideal.hostReduceAdd_single _ reduces_classes _ _ _).trans ?_
  have h0 : (constant S_ .f32 0x00000000#32 : FVec Ideal S_ .f32) (Shape.Idx.first h_S_) = (0 : EReal) := Ideal.ofBits_zero_f32
  rw [h0, zero_add, ← sum_exp ξ]
  refine Finset.sum_congr rfl fun k _ => ?_
  rw [← centred_apply x b ξ hx k]
  rw [← hostExp_apply]
  exact congrArg (Host.exp (centred x)) (lift_classes b k)

/-- The reference's log-probability of a class. -/
theorem logProbs_apply (l : Fin 1000) : logProbs x (ValueIdx.ix2 b l) = ((-lossOf ξ l : ℝ) : EReal) := by
  unfold logProbs
  rw [subf_apply, overClasses_apply, centred_apply x b ξ hx, hostLog_apply, column_apply, massOf_apply x b ξ hx, log_mass, ← EReal.coe_sub,
    ← EReal.coe_sub]
  refine congrArg Real.toEReal ?_
  unfold lossOf
  ring

end

end Cert.Ohem.Reference
-- ==== Proof.Reference.Pick.lean ====
/- The reference's losses at the reals: where a sample's logits are real numbers and its label is a class, the label's
   log-probability is picked out and no guard against a label out of range comes to bear. -/
module

public import proofs.«01_k».proof.Proof.Reference.Logits
public import Idealize.ShloMosaic.Lib.ReduceAll
public import Idealize.ShloMosaic.Lib.WordCmp
public import Idealize.ShloMosaic.Lib.ValueLayout
public import Idealize.ShloMosaic.Lib.ValueLayoutCasts

@[expose] public section

noncomputable section

namespace Cert.Ohem.Reference

open Cert.ReferenceIdeal Cert.ReferenceIdeal.Gen
open Idealize.ShloMosaic

/-- The labels as a column. -/
def labelColumn (y : IVec S16384 32) : IVec S16384x1 32 := broadcastInDim S16384x1 ![0] bcast_S16384_S16384x1_0 y

/-- The class picked for each sample: the label, counted from the end when negative. -/
def picked (y : IVec S16384 32) : IVec S16384x1x1 32 :=
  shapeCast S16384x1x1 (Idealize.ShloMosaic.select
    (cmpi .slt (labelColumn y) (broadcastInDim S16384x1 ![] bcast_S_S16384x1 (constantI S_ 32 0#32)))
    (addi (labelColumn y) (broadcastInDim S16384x1 ![] bcast_S_S16384x1 (constantI S_ 32 1000#32))) (labelColumn y))
    shapeCasts_S16384x1_S16384x1x1

/-- Whether the class picked is in range. -/
def inRange (j : IVec S16384x1x1 32) : IVec S16384x1x1 1 :=
  andi (cmpi .sge j (broadcastInDim S16384x1x1 ![] bcast_S_S16384x1x1 (constantI S_ 32 0#32)))
    (cmpi .sle j (broadcastInDim S16384x1x1 ![0, 1, 2] bcast_S1x1x1_S16384x1x1_0_1_2
      (broadcastInDim S1x1x1 ![2] bcast_S1_S1x1x1_2 (constantI S1 32 999#32))))

/-- The reference's losses. -/
def lossesOf (x : FVec Ideal S16384x1000 .f32) (y : IVec S16384 32) : FVec Ideal S16384 .f32 :=
  Host.negf (shapeCast S16384 (Idealize.ShloMosaic.select
    (Host.reduce IntOp.andi (inRange (picked y)) (constantI S_ 1 1#1) reducesTo_S16384x1x1_S16384x1_d2 h_S_)
    (Host.gather gather_S16384x1000_S16384x1x1_S16384x1_n_1_0_0_1_2_11 (logProbs x) (picked y))
    (broadcastInDim S16384x1 ![] bcast_S_S16384x1 (constant S_ .f32 0x7FC00000#32))) shapeCasts_S16384x1_S16384)

theorem labelColumn_apply (y : IVec S16384 32) (b : Fin 16384) : labelColumn y (ValueIdx.ix2 b (0 : Fin 1)) = y (ValueIdx.ix1 b) :=
  broadcastInDim_apply _ _ y _ _ fun a => match a with
    | ⟨0, _⟩ => rfl

/-- A label that is a class is the class picked. -/
theorem picked_apply (y : IVec S16384 32) (b : Fin 16384) (l : Fin 1000) (hy : y (ValueIdx.ix1 b) = BitVec.ofNat 32 l.val) :
    picked y (ValueIdx.ix3 b (0 : Fin 1) (0 : Fin 1)) = BitVec.ofNat 32 l.val := by
  unfold picked
  refine (shapeCast_apply (s := S16384x1) (t := S16384x1x1) _ _ _ (ValueIdx.ix2 b (0 : Fin 1)) ?_).trans ?_
  · rw [Shape.rowMajor_val_two, Shape.rowMajor_val_three]
    change b.val * 1 + 0 = (b.val * 1 + 0) * 1 + 0
    omega
  · rw [WordCmp.select_at, WordCmp.cmpi_at, labelColumn_apply, hy, WordCmp.broadcastInDim_constantI]
    refine if_neg fun h => ?_
    exact absurd ((WordCmp.cmpi_slt_ofNat_eq_one_iff (by omega) (by omega)).mp h) (Nat.not_lt_zero _)

theorem inRange_apply (j : IVec S16384x1x1 32) (i : S16384x1x1.Idx) (l : Fin 1000) (hj : j i = BitVec.ofNat 32 l.val) : inRange j i = 1#1 := by
  change IntOp.andi (IntOp.cmpi .sge (j i) (BitVec.ofNat 32 0)) (IntOp.cmpi .sle (j i) (BitVec.ofNat 32 999)) = 1#1
  rw [hj, (WordCmp.cmpi_sge_ofNat_eq_one_iff (by omega) (by omega)).mpr (Nat.zero_le l.val),
    (WordCmp.cmpi_sle_ofNat_eq_one_iff (by omega) (by omega)).mpr (by omega : l.val ≤ 999)]
  rfl

/-- The reference's gather: in each row, the entry its own start index names. -/
abbrev pick : GatherDims S16384x1000 S16384x1x1 S16384x1 := gather_S16384x1000_S16384x1x1_S16384x1_n_1_0_0_1_2_11

/-- The row gathered from is the sample's. -/
theorem pick_row (j : IVec S16384x1x1 32) (b : Fin 16384) : (pick.operandIdx (ValueIdx.ix2 b (0 : Fin 1)) j (0 : Fin 2)).val = b.val := by
  have hb : (0 : Fin 2) ∈ pick.operandBatchingDims := List.mem_singleton.mpr rfl
  have hk : (0 : Fin 2) ∉ pick.sKept := fun h => ((GatherDims.mem_sKept pick _).mp h).2 hb
  change pick.start (ValueIdx.ix2 b (0 : Fin 1)) j (0 : Fin 2) + pick.batchCoord (ValueIdx.ix2 b (0 : Fin 1)) (0 : Fin 2)
    + pick.offCoord (ValueIdx.ix2 b (0 : Fin 1)) (0 : Fin 2) = _
  rw [pick.start_batching _ _ _ hb, pick.offCoord_eq_zero _ _ hk, Nat.zero_add, Nat.add_zero]
  exact dif_pos hb

/-- The start index of a sample. -/
theorem pick_start (b : Fin 16384) (h : (1 : Fin 2) ∈ pick.startIndexMap) :
    pick.siIdx (ValueIdx.ix2 b (0 : Fin 1)) ⟨pick.startIndexMap.idxOf (1 : Fin 2), List.idxOf_lt_length_iff.2 h⟩
      = ValueIdx.ix3 b (0 : Fin 1) (0 : Fin 1) :=
  funext fun a => Fin.ext (match a with
    | ⟨0, _⟩ => rfl
    | ⟨1, _⟩ => rfl
    | ⟨2, _⟩ => rfl)

/-- The column gathered from is the start index. -/
theorem pick_column (j : IVec S16384x1x1 32) (b : Fin 16384) (l : Fin 1000)
    (hj : j (ValueIdx.ix3 b (0 : Fin 1) (0 : Fin 1)) = BitVec.ofNat 32 l.val) :
    (pick.operandIdx (ValueIdx.ix2 b (0 : Fin 1)) j (1 : Fin 2)).val = l.val := by
  have hm : (1 : Fin 2) ∈ pick.startIndexMap := List.mem_singleton.mpr rfl
  have hb : (1 : Fin 2) ∉ pick.operandBatchingDims := pick.sim_disjoint _ hm
  have hk : (1 : Fin 2) ∉ pick.sKept := fun h => ((GatherDims.mem_sKept pick _).mp h).1 (List.mem_singleton.mpr rfl)
  change pick.start (ValueIdx.ix2 b (0 : Fin 1)) j (1 : Fin 2) + pick.batchCoord (ValueIdx.ix2 b (0 : Fin 1)) (1 : Fin 2)
    + pick.offCoord (ValueIdx.ix2 b (0 : Fin 1)) (1 : Fin 2) = _
  rw [pick.batchCoord_eq_zero _ _ hb, pick.offCoord_eq_zero _ _ hk, Nat.add_zero]
  unfold GatherDims.start
  rw [dif_pos hm, pick_start b hm, hj, WordCmp.toInt_ofNat_of_lt (by omega)]
  change min l.val 999 = l.val
  omega

/-- The gathered entry of a sample. -/
theorem gather_apply (z : FVec Ideal S16384x1000 .f32) (j : IVec S16384x1x1 32) (b : Fin 16384) (l : Fin 1000)
    (hj : j (ValueIdx.ix3 b (0 : Fin 1) (0 : Fin 1)) = BitVec.ofNat 32 l.val) :
    Host.gather pick z j (ValueIdx.ix2 b (0 : Fin 1)) = z (ValueIdx.ix2 b l) :=
  congrArg z (funext fun a => Fin.ext (match a with
    | ⟨0, _⟩ => pick_row j b
    | ⟨1, _⟩ => pick_column j b l hj))

/-- The test of every label at once comes out true when each sample's label is a class. -/
theorem inRange_all (y : IVec S16384 32) (l : Fin 16384 → Fin 1000) (hy : ∀ b, y (ValueIdx.ix1 b) = BitVec.ofNat 32 (l b).val)
    (i : S16384x1.Idx) :
    Host.reduce IntOp.andi (inRange (picked y)) (constantI S_ 1 1#1) reducesTo_S16384x1x1_S16384x1_d2 h_S_ i = 1#1 := by
  refine Host.reduce_andi_one _ _ _ _ _ rfl fun k => ?_
  have hk : k = ValueIdx.ix3 (k 0 : Fin 16384) (0 : Fin 1) (0 : Fin 1) := funext fun a => match a with
    | ⟨0, _⟩ => rfl
    | ⟨1, _⟩ => (Subsingleton.elim (α := Fin 1) _ _)
    | ⟨2, _⟩ => (Subsingleton.elim (α := Fin 1) _ _)
  exact inRange_apply _ _ (l (k 0)) ((congrArg (picked y) hk).trans (picked_apply y (k 0) (l (k 0)) (hy _)))

theorem negf_apply {s : Shape} (v : FVec Ideal s .f32) (i : s.Idx) : Host.negf v i = -(v i : EReal) := rfl

/-- The reference's loss of a sample. -/
theorem lossesOf_apply (x : FVec Ideal S16384x1000 .f32) (y : IVec S16384 32) (ξ : Fin 16384 → Fin 1000 → ℝ) (l : Fin 16384 → Fin 1000)
    (hx : ∀ b k, x (ValueIdx.ix2 b k) = (ξ b k : EReal)) (hy : ∀ b, y (ValueIdx.ix1 b) = BitVec.ofNat 32 (l b).val) (b : Fin 16384) :
    lossesOf x y (ValueIdx.ix1 b) = (lossOf (ξ b) (l b) : EReal) := by
  unfold lossesOf
  rw [negf_apply]
  have hcast (v : FVec Ideal S16384x1 .f32) :
      shapeCast S16384 v shapeCasts_S16384x1_S16384 (ValueIdx.ix1 b) = v (ValueIdx.ix2 b (0 : Fin 1)) := by
    refine shapeCast_apply (s := S16384x1) (t := S16384) _ _ _ (ValueIdx.ix2 b (0 : Fin 1)) ?_
    rw [Shape.rowMajor_val_two, Shape.rowMajor_val_one]
    change b.val * 1 + 0 = b.val
    omega
  rw [hcast, WordCmp.select_at, inRange_all y l hy]
  have hg := (gather_apply (logProbs x) (picked y) b (l b) (picked_apply y b (l b) (hy b))).trans (logProbs_apply x b (ξ b) (hx b) (l b))
  refine (congrArg (fun t : EReal => -t) ((if_pos rfl).trans hg)).trans ?_
  rw [← EReal.coe_neg, neg_neg]

end Cert.Ohem.Reference
-- ==== Proof.Reference.TopK.lean ====
/- The reference's answer from its losses: the sum of the greatest 11468 losses, whichever listing of the samples from the greatest
   loss to the least they are read off, divided by 11468. -/
module

public import proofs.«01_k».proof.Proof.Gen.ReferenceIdeal
public import proofs.«01_k».proof.Proof.Maths.Coe
public import Idealize.ShloMosaic.PureOps.Ideal.Laws
public import Idealize.ShloMosaic.Lib.IdealHost
public import Idealize.ShloMosaic.Lib.SortFacts
public import Idealize.ShloMosaic.Lib.ValueIdx
public import Idealize.ShloMosaic.Lib.WordCmp

@[expose] public section

noncomputable section

namespace Cert.Ohem.Reference

open Cert.ReferenceIdeal Cert.ReferenceIdeal.Gen
open Idealize.ShloMosaic

/-- The reference's answer: the greatest losses, their sum, the quotient. -/
def answer (v : FVec Ideal S16384 .f32) : FVec Ideal S_ .f32 :=
  Host.divf (Host.reduceAdd (Host.topK S11468 0 (FloatOps.cmpfTotal .gt) v sliceFits_S16384_S11468).1
    (constant S_ .f32 0x00000000#32) reducesTo_S11468_S_d0 h_S_) (constant S_ .f32 0x46333000#32)

/-- A sample goes before another when its loss is the greater. -/
def before (v : FVec Ideal S16384 .f32) (i j : Fin 16384) : Bool :=
  (FloatOps.cmpfTotal .gt (v (ValueIdx.ix1 i)) (v (ValueIdx.ix1 j)) : BitVec 1) == 1#1

/-- The samples in the order of the reference's top-k. -/
def listing (v : FVec Ideal S16384 .f32) : Fin 16384 → Fin 16384 := sortedFrom (before v)

theorem listing_bijective (v : FVec Ideal S16384 .f32) : Function.Bijective (listing v) :=
  ⟨sortedFrom_injective _, sortedFrom_surjective _⟩

theorem before_iff (v : FVec Ideal S16384 .f32) (i j : Fin 16384) :
    before v i j = true ↔ (v (ValueIdx.ix1 j) : EReal) < (v (ValueIdx.ix1 i) : EReal) := by
  unfold before
  rw [beq_iff_eq]
  exact WordCmp.ofBool_decide_eq_one_iff _

/-- Down the listing the losses never rise. -/
theorem listing_falls (v : FVec Ideal S16384 .f32) (i j : Fin 16384) (h : i < j) :
    (v (ValueIdx.ix1 (listing v j)) : EReal) ≤ (v (ValueIdx.ix1 (listing v i)) : EReal) := by
  have hs := sortedFrom_noInversion (before v) (before v)
    (fun a b hab => Bool.eq_false_iff.mpr fun hba => lt_asymm ((before_iff v a b).mp hab) ((before_iff v b a).mp hba))
    (fun _ _ hab => hab)
    (fun a b c hab hbc => Bool.eq_false_iff.mpr fun hac => by
      have h1 := not_lt.mp (mt (before_iff v a b).mpr (Bool.eq_false_iff.mp hab))
      have h2 := not_lt.mp (mt (before_iff v b c).mpr (Bool.eq_false_iff.mp hbc))
      exact absurd ((before_iff v a c).mp hac) (not_lt.mpr (h1.trans h2))) i j h
  exact not_lt.mp (mt (before_iff v _ _).mpr (Bool.eq_false_iff.mp hs))

/-- A rank-1 index moved along its one axis is the index it is moved to. -/
theorem along_only {n : Nat} (j : (⟨1, ![n]⟩ : Shape).Idx) (k : Fin n) : j.along (0 : Fin 1) k = ValueIdx.ix1 k :=
  funext fun a => by
    have h : a = 0 := Subsingleton.elim _ _
    subst h
    exact (Function.update_self (0 : Fin 1) k j).trans rfl

/-- The first of two vectors sorted together by the first one's entries. -/
theorem sort2_vector {α : Type} {n : Nat} (gt : α → α → BitVec 1) (x : (⟨1, ![n]⟩ : Shape).Idx → α)
    (y : (⟨1, ![n]⟩ : Shape).Idx → BitVec 32) (j : (⟨1, ![n]⟩ : Shape).Idx) :
    (Host.sort2 ⟨1, ![n]⟩ 0 (fun l r => gt l.1 r.1) x y).1 j
      = x (ValueIdx.ix1 (sortedFrom (fun a b => gt (x (ValueIdx.ix1 a)) (x (ValueIdx.ix1 b)) == 1#1) (j 0))) := by
  have hx : (fun k : Fin n => x (j.along (0 : Fin 1) k)) = fun k : Fin n => x (ValueIdx.ix1 k) :=
    funext fun k => congrArg x (along_only j k)
  exact congrArg (fun f : Fin n → α => f (sortedFrom (fun a b => gt (f a) (f b) == 1#1) (j 0))) hx

/-- The `k`-th entry of a vector's top-k. -/
theorem topK_vector {α : Type} {n K : Nat} (gt : α → α → BitVec 1) (x : (⟨1, ![n]⟩ : Shape).Idx → α)
    (h : (⟨1, ![n]⟩ : Shape).Slices (fun _ => 0) (⟨1, ![K]⟩ : Shape)) (k : Fin K) (hk : k.val < n) :
    (Host.topK ⟨1, ![K]⟩ 0 gt x h).1 (ValueIdx.ix1 k)
      = x (ValueIdx.ix1 (sortedFrom (fun a b => gt (x (ValueIdx.ix1 a)) (x (ValueIdx.ix1 b)) == 1#1) ⟨k.val, hk⟩)) := by
  refine (sort2_vector gt x (fun i => iotaInDim ⟨1, ![n]⟩ 32 (0 : Fin 1) i) _).trans ?_
  refine congrArg (fun p : Fin n => x (ValueIdx.ix1 (sortedFrom _ p))) (Fin.ext ?_)
  exact Nat.zero_add _

/-- The `k`-th greatest loss. -/
theorem topK_apply (v : FVec Ideal S16384 .f32) (k : Fin 11468) :
    (Host.topK S11468 0 (FloatOps.cmpfTotal .gt) v sliceFits_S16384_S11468).1 (ValueIdx.ix1 k)
      = v (ValueIdx.ix1 (listing v ⟨k.val, by omega⟩)) :=
  topK_vector _ v _ k _

/-- A sum over the first `K` places is a sum over all the places, the later ones counted zero. -/
theorem sum_first {N K : Nat} (h : K ≤ N) (f : Fin N → ℝ) :
    ∑ k : Fin K, f (Fin.castLE h k) = ∑ j : Fin N, if j.val < K then f j else 0 := by
  rw [← Finset.sum_filter]
  refine Finset.sum_bij (fun k _ => Fin.castLE h k) (fun k _ => Finset.mem_filter.mpr ⟨Finset.mem_univ _, k.isLt⟩)
    (fun a _ b _ hab => Fin.castLE_injective h hab) (fun j hj => ⟨⟨j.val, (Finset.mem_filter.mp hj).2⟩, Finset.mem_univ _, rfl⟩)
    (fun _ _ => rfl)

/-- The indices of a vector are its places. -/
def places (n : Nat) : Fin n ≃ (⟨1, ![n]⟩ : Shape).Idx where
  toFun k := ValueIdx.ix1 k
  invFun j := j 0
  left_inv _ := rfl
  right_inv j := funext fun a => by
    have h : a = 0 := Subsingleton.elim _ _
    subst h
    rfl

/-- The reference's answer where the losses are real numbers. -/
theorem answer_eq (v : FVec Ideal S16384 .f32) (r : Fin 16384 → ℝ) (hv : ∀ b, v (ValueIdx.ix1 b) = (r b : EReal)) :
    answer v = fun _ => Ideal.div ((∑ j : Fin 16384, (if j.val < 11468 then r (listing v j) else 0) : ℝ) : EReal)
      (Ideal.ofBits .f32 0x46333000#32) := by
  funext i
  unfold answer
  rw [ValueIdx.hostDivf_apply, ValueIdx.hostReduceAdd_apply]
  refine congrArg (fun t => Ideal.div t (Ideal.ofBits .f32 0x46333000#32)) ?_
  refine (Ideal.hostReduceAdd_total _ (fun b => b.elim0) _ _ _).trans ?_
  have h0 : (constant S_ .f32 0x00000000#32 : FVec Ideal S_ .f32) (Shape.Idx.first h_S_) = (0 : EReal) := Ideal.ofBits_zero_f32
  rw [h0, zero_add, ← sum_first (by omega : 11468 ≤ 16384) (fun j => r (listing v j)), coe_sum]
  refine ((places 11468).sum_comp _).symm.trans ?_
  refine Finset.sum_congr rfl fun k _ => ?_
  exact (topK_apply v k).trans (hv _)

end Cert.Ohem.Reference
-- ==== Proof.Reference.Value.lean ====
/- The reference's run, its result written as the stages of the other modules: the losses, then the answer from them. -/
module

public import proofs.«01_k».proof.Proof.Gen.ReferenceIdeal.Run
public import proofs.«01_k».proof.Proof.Reference.Pick
public import proofs.«01_k».proof.Proof.Reference.TopK

@[expose] public section

noncomputable section

namespace Cert.Ohem.Reference

open Cert.ReferenceIdeal Cert.ReferenceIdeal.Gen
open Idealize.ShloMosaic Idealize.ShloMosaic.TcCoe Idealize.SL.Sem

variable (m : (ℓ : Loc nD τ sig) → Buf (Elt Ideal) ℓ)

/-- The reference's result on a device. -/
def result (c : Dev nD) : FVec Ideal S_ .f32 :=
  answer (lossesOf (m ((c : Thread nD τ).loc main_arg0)) (m ((c : Thread nD τ).loc main_arg1)))

theorem run (ρ : Dev nD → PrngReg) :
    θ_run (defs (F := Ideal)) (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨(h c).1.trans (by
    unfold result answer lossesOf inRange picked labelColumn logProbs massOf centred overClasses column topOf
    rfl), (h c).2⟩) (Cert.ReferenceIdeal.Value.run (F := Ideal) m ρ)

end Cert.Ohem.Reference
-- ==== Proof.Algebraic.lean ====
/- The kernel and the reference give the same answer: both are the sum of the 11468 greatest losses over 11468. -/
module

public import proofs.«01_k».proof.Defs
public import proofs.«01_k».proof.Proof.Ideal.Value
public import proofs.«01_k».proof.Proof.Precondition
public import proofs.«01_k».proof.Proof.Reference.Value

@[expose] public section

noncomputable section

namespace Cert.Ohem

open Idealize.ShloMosaic Idealize.SL.Sem

/-- The answers agree on every memory the precondition admits. -/
theorem answers_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : FVec Ideal Cert.KernelIdeal.S16384x1000 .f32) (y : IVec Cert.KernelIdeal.S16384 32)
    (hx : m ((c.tc : Thread Cert.KernelIdeal.nD Cert.KernelIdeal.τ).loc Cert.KernelIdeal.main_arg0) = x)
    (hy : m ((c.tc : Thread Cert.KernelIdeal.nD Cert.KernelIdeal.τ).loc Cert.KernelIdeal.main_arg1) = y)
    (hx' : m' ((c.tc : Thread Cert.ReferenceIdeal.nD Cert.ReferenceIdeal.τ).loc Cert.ReferenceIdeal.main_arg0) = x)
    (hy' : m' ((c.tc : Thread Cert.ReferenceIdeal.nD Cert.ReferenceIdeal.τ).loc Cert.ReferenceIdeal.main_arg1) = y)
    (ξ : Fin 16384 → Fin 1000 → ℝ) (l : Fin 16384 → Fin 1000) (hξ : ∀ b k, x (ValueIdx.ix2 b k) = (ξ b k : EReal))
    (hl : ∀ b, y (ValueIdx.ix1 b) = BitVec.ofNat 32 (l b).val) :
    Reference.result m' c = fun _ => select (losses m c) := by
  subst hx hy
  have hv := Reference.lossesOf_apply _ _ ξ l hξ hl
  unfold Reference.result
  rw [hx', hy', Reference.answer_eq _ _ hv]
  refine funext fun _ => (select_losses m c ξ l hξ hl _ (Reference.listing_bijective _) fun i j hij => ?_).symm
  have hf := Reference.listing_falls (Reference.lossesOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1))) i j hij
  rw [hv, hv] at hf
  exact EReal.coe_le_coe_iff.mp hf

/-- The value claim. -/
theorem algebraic : Cert.algebraic_KernelIdeal_ReferenceIdeal_pre_logits_finite_labels_in_range (hKernelIdeal := Cert.KernelIdeal.Gen.facts)
    (hReferenceIdeal := Cert.ReferenceIdeal.Gen.facts) (hPre_logits_finite_labels_in_range := preFacts) := by
  intro m g m' g' hpre hargs
  refine ⟨fun c => (fun _ => select (losses m c) : Vec Ideal Cert.KernelIdeal.S_ .f32), (θ_run _ _ _).mono (fun _ h => h.1) (run m g),
    (θ_run _ _ _).mono (fun _ h c => ⟨(h c).1.trans ?_, (h c).2⟩) (Reference.run m' g')⟩
  have hall := letI := preFacts; real_logits_and_classes _ _ (hpre c)
  choose l hl using fun b => (hall b 0).2
  exact answers_agree m m' c _ _ rfl rfl (hargs c).1 (hargs c).2 _ l (fun b k => (hall b k).1) hl

end Cert.Ohem
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Words.Frame
public import proofs.«01_k».proof.Proof.Ideal.Frame
public import proofs.«01_k».proof.Proof.Reference.Frame
public import proofs.«01_k».proof.Proof.Algebraic

@[expose] public section

noncomputable section

namespace Cert.Proof

open Idealize.ShloMosaic Idealize.SL.Sem

/-- The kernel's frame over the words. -/
theorem kernel_frame : Cert.quiescent_Kernel (hKernel := Cert.Kernel.Gen.facts) :=
  fun m g _ => Cert.Ohem.Words.quiescent m g

/-- The idealised kernel's frame. -/
theorem ideal_frame : Cert.quiescent_KernelIdeal (hKernelIdeal := Cert.KernelIdeal.Gen.facts) :=
  fun m g _ => (θ_run _ _ _).mono (fun _ h => ⟨fun c => (h.1 c).2, h.2⟩) (Cert.Ohem.run m g)

/-- The idealised kernel's frame on the memories the precondition admits. -/
theorem ideal_frame_pre : Cert.quiescent_KernelIdeal_pre_logits_finite_labels_in_range (hKernelIdeal := Cert.KernelIdeal.Gen.facts)
    (hPre_logits_finite_labels_in_range := Cert.Ohem.preFacts) :=
  fun m g _ => ideal_frame m g trivial

/-- The idealised reference's frame. -/
theorem reference_frame : Cert.quiescent_ReferenceIdeal (hReferenceIdeal := Cert.ReferenceIdeal.Gen.facts) :=
  fun m g _ => Cert.Ohem.Reference.quiescent m g

/-- The idealised reference's frame on the memories the precondition admits. -/
theorem reference_frame_pre : Cert.quiescent_ReferenceIdeal_pre_logits_finite_labels_in_range
    (hReferenceIdeal := Cert.ReferenceIdeal.Gen.facts) (hPre_logits_finite_labels_in_range := Cert.Ohem.preFacts) :=
  fun m g _ => Cert.Ohem.Reference.quiescent m g

theorem claim : Cert.Claim :=
  ⟨Cert.Kernel.Gen.facts, Cert.KernelIdeal.Gen.facts, Cert.ReferenceIdeal.Gen.facts, Cert.Ohem.preFacts,
    kernel_frame, ideal_frame, ideal_frame_pre, reference_frame, reference_frame_pre, trivial, Cert.Ohem.algebraic⟩

end Cert.Proof

end
